-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bins_in_range [hPre_bins_in_range : Cert.Pre_bins_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_bins_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bins_in_range [hPre_bins_in_range : Cert.Pre_bins_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bins_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_bins_in_range [hKernelIdeal : Cert.KernelIdeal.Facts] [hPre_bins_in_range : Cert.Pre_bins_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_bins_in_range [hReferenceIdeal : Cert.ReferenceIdeal.Facts] [hPre_bins_in_range : Cert.Pre_bins_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bins_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_npix" .f32 0x37A72F05#32 ((1 / 50176 : ℝ) : EReal)

def algebraic_KernelIdeal_ReferenceIdeal_pre_bins_in_range [hKernelIdeal : Cert.KernelIdeal.Facts] [hReferenceIdeal : Cert.ReferenceIdeal.Facts] [hPre_bins_in_range : Cert.Pre_bins_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bins_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v192) = v0 c
          ∧ r.2.mem ((c.tc : Thread Cert.ReferenceIdeal.nD Cert.ReferenceIdeal.τ).loc Cert.ReferenceIdeal.main_v239) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_bins_in_range : Cert.Pre_bins_in_range.Facts),
    quiescent_Kernel (hKernel := hKernel)
    ∧ quiescent_KernelIdeal (hKernelIdeal := hKernelIdeal)
    ∧ quiescent_KernelIdeal_pre_bins_in_range (hKernelIdeal := hKernelIdeal) (hPre_bins_in_range := hPre_bins_in_range)
    ∧ quiescent_ReferenceIdeal (hReferenceIdeal := hReferenceIdeal)
    ∧ quiescent_ReferenceIdeal_pre_bins_in_range (hReferenceIdeal := hReferenceIdeal) (hPre_bins_in_range := hPre_bins_in_range)
    ∧ preserves_Kernel_KernelIdeal
    ∧ algebraic_KernelIdeal_ReferenceIdeal_pre_bins_in_range (hKernelIdeal := hKernelIdeal) (hReferenceIdeal := hReferenceIdeal) (hPre_bins_in_range := hPre_bins_in_range)
-- ==== Pre_bins_in_range.lean ====
abbrev S8x3x224x224 : Shape := ⟨4, ![8, 3, 224, 224]⟩
abbrev S1x224x224 : Shape := ⟨3, ![1, 224, 224]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S214x128x3x3 : Shape := ⟨4, ![214, 128, 3, 3]⟩
abbrev S214 : Shape := ⟨1, ![214]⟩
abbrev S2x214 : Shape := ⟨2, ![2, 214]⟩
abbrev S2 : Shape := ⟨1, ![2]⟩
abbrev S_ : Shape := ⟨0, ![]⟩

class Facts : Prop where
  bcast_S_S1x224x224 : S_.BroadcastsInDim S1x224x224 (![] : Fin 0 → Fin S1x224x224.rank)
  reducesTo_S1x224x224_S_d0_1_2 : S1x224x224.ReducesTo [0, 1, 2] S_
  h_S_ : 0 < S_.numel

variable [Facts]

def fn {F : FTy → Type} [FloatOps F] (main_arg0 : FVec F S8x3x224x224 .f32) (main_arg1 : IVec S1x224x224 32) (main_arg2 : FVec F S64x3x3x3 .f32) (main_arg3 : FVec F S64 .f32) (main_arg4 : FVec F S128x64x3x3 .f32) (main_arg5 : FVec F S128 .f32) (main_arg6 : FVec F S214x128x3x3 .f32) (main_arg7 : FVec F S214 .f32) (main_arg8 : FVec F S2x214 .f32) (main_arg9 : FVec F S2 .f32) : IVec S_ 1 :=
  let main_c : IVec S_ 32 := constantI S_ 32 0#32
  let main_v0 : IVec S1x224x224 32 := broadcastInDim S1x224x224 ![] bcast_S_S1x224x224 main_c
  let main_v1 : IVec S1x224x224 1 := cmpi .sge main_arg1 main_v0
  let main_c_0 : IVec S_ 32 := constantI S_ 32 214#32
  let main_v2 : IVec S1x224x224 32 := broadcastInDim S1x224x224 ![] bcast_S_S1x224x224 main_c_0
  let main_v3 : IVec S1x224x224 1 := cmpi .slt main_arg1 main_v2
  let main_v4 : IVec S1x224x224 1 := andi main_v1 main_v3
  let main_c_1 : IVec S_ 1 := constantI S_ 1 1#1
  let main_v5 : IVec S_ 1 := (fun x v => Host.reduce IntOp.andi x v reducesTo_S1x224x224_S_d0_1_2 h_S_) main_v4 main_c_1
  main_v5
-- ==== Kernel.lean ====
abbrev S8x3x224x224 : Shape := ⟨4, ![8, 3, 224, 224]⟩
abbrev S1x224x224 : Shape := ⟨3, ![1, 224, 224]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S214x128x3x3 : Shape := ⟨4, ![214, 128, 3, 3]⟩
abbrev S214 : Shape := ⟨1, ![214]⟩
abbrev S2x214 : Shape := ⟨2, ![2, 214]⟩
abbrev S2 : Shape := ⟨1, ![2]⟩
abbrev S_ : Shape := ⟨0, ![]⟩
abbrev S8x3x230x226 : Shape := ⟨4, ![8, 3, 230, 226]⟩
abbrev S3x3x3x64 : Shape := ⟨4, ![3, 3, 3, 64]⟩
abbrev S9x3x64 : Shape := ⟨3, ![9, 3, 64]⟩
abbrev S3x3x64x128 : Shape := ⟨4, ![3, 3, 64, 128]⟩
abbrev S9x64x128 : Shape := ⟨3, ![9, 64, 128]⟩
abbrev S3x3x128x214 : Shape := ⟨4, ![3, 3, 128, 214]⟩
abbrev S9x128x214 : Shape := ⟨3, ![9, 128, 214]⟩
abbrev S1x64 : Shape := ⟨2, ![1, 64]⟩
abbrev S1x128 : Shape := ⟨2, ![1, 128]⟩
abbrev S1x214 : Shape := ⟨2, ![1, 214]⟩
abbrev S214x2 : Shape := ⟨2, ![214, 2]⟩
abbrev S1x2 : Shape := ⟨2, ![1, 2]⟩
abbrev S8x224x224 : Shape := ⟨3, ![8, 224, 224]⟩
abbrev S8x1x214 : Shape := ⟨3, ![8, 1, 214]⟩
abbrev S6272x8 : Shape := ⟨2, ![6272, 8]⟩
abbrev S8x2 : Shape := ⟨2, ![8, 2]⟩
abbrev S1x214x1x1 : Shape := ⟨4, ![1, 214, 1, 1]⟩
abbrev S8x214x224x224 : Shape := ⟨4, ![8, 214, 224, 224]⟩
abbrev S1x3x230x226 : Shape := ⟨4, ![1, 3, 230, 226]⟩
abbrev S1x32x224 : Shape := ⟨3, ![1, 32, 224]⟩
abbrev S1x1x214 : Shape := ⟨3, ![1, 1, 214]⟩
abbrev S1x3x38x226 : Shape := ⟨4, ![1, 3, 38, 226]⟩
abbrev S3x38x226 : Shape := ⟨3, ![3, 38, 226]⟩
abbrev S3x8588 : Shape := ⟨2, ![3, 8588]⟩
abbrev S8588x3 : Shape := ⟨2, ![8588, 3]⟩
abbrev S1x3 : Shape := ⟨2, ![1, 3]⟩
abbrev S8589x3 : Shape := ⟨2, ![8589, 3]⟩
abbrev S8590x3 : Shape := ⟨2, ![8590, 3]⟩
abbrev S8136x3 : Shape := ⟨2, ![8136, 3]⟩
abbrev S1x3x64 : Shape := ⟨3, ![1, 3, 64]⟩
abbrev S3x64 : Shape := ⟨2, ![3, 64]⟩
abbrev S8136x64 : Shape := ⟨2, ![8136, 64]⟩
abbrev S8136x1 : Shape := ⟨2, ![8136, 1]⟩
abbrev S8137x64 : Shape := ⟨2, ![8137, 64]⟩
abbrev S8138x64 : Shape := ⟨2, ![8138, 64]⟩
abbrev S7684x64 : Shape := ⟨2, ![7684, 64]⟩
abbrev S1x64x128 : Shape := ⟨3, ![1, 64, 128]⟩
abbrev S64x128 : Shape := ⟨2, ![64, 128]⟩
abbrev S7684x128 : Shape := ⟨2, ![7684, 128]⟩
abbrev S7684x1 : Shape := ⟨2, ![7684, 1]⟩
abbrev S7685x128 : Shape := ⟨2, ![7685, 128]⟩
abbrev S7686x128 : Shape := ⟨2, ![7686, 128]⟩
abbrev S7232x128 : Shape := ⟨2, ![7232, 128]⟩
abbrev S1x128x214 : Shape := ⟨3, ![1, 128, 214]⟩
abbrev S128x214 : Shape := ⟨2, ![128, 214]⟩
abbrev S7232x214 : Shape := ⟨2, ![7232, 214]⟩
abbrev S7232x1 : Shape := ⟨2, ![7232, 1]⟩
abbrev S7232 : Shape := ⟨1, ![7232]⟩
abbrev S32x226 : Shape := ⟨2, ![32, 226]⟩
abbrev S32x224 : Shape := ⟨2, ![32, 224]⟩
abbrev S6272x1 : Shape := ⟨2, ![6272, 1]⟩
abbrev S6272x214 : Shape := ⟨2, ![6272, 214]⟩
abbrev S8x214 : Shape := ⟨2, ![8, 214]⟩
abbrev S8 : Shape := ⟨1, ![8]⟩
abbrev S8x1 : Shape := ⟨2, ![8, 1]⟩
abbrev S1x214x32x224 : Shape := ⟨4, ![1, 214, 32, 224]⟩
abbrev S1x1x32x224 : Shape := ⟨4, ![1, 1, 32, 224]⟩

abbrev nBuf : Space → Nat
  | .hbm => 34
  | .vmem => 23
  | .smem => 0
  | _ => 0

abbrev bufTy : (tb : Table) → Fin (tcTables nBuf tb) → BufTy
  | .hbm, ⟨0, _⟩ => ⟨S8x3x224x224, .f32⟩
  | .hbm, ⟨1, _⟩ => ⟨S1x224x224, .i32⟩
  | .hbm, ⟨2, _⟩ => ⟨S64x3x3x3, .f32⟩
  | .hbm, ⟨3, _⟩ => ⟨S64, .f32⟩
  | .hbm, ⟨4, _⟩ => ⟨S128x64x3x3, .f32⟩
  | .hbm, ⟨5, _⟩ => ⟨S128, .f32⟩
  | .hbm, ⟨6, _⟩ => ⟨S214x128x3x3, .f32⟩
  | .hbm, ⟨7, _⟩ => ⟨S214, .f32⟩
  | .hbm, ⟨8, _⟩ => ⟨S2x214, .f32⟩
  | .hbm, ⟨9, _⟩ => ⟨S2, .f32⟩
  | .hbm, ⟨10, _⟩ => ⟨S_, .i32⟩
  | .hbm, ⟨11, _⟩ => ⟨S_, .f32⟩
  | .hbm, ⟨12, _⟩ => ⟨S8x3x230x226, .f32⟩
  | .hbm, ⟨13, _⟩ => ⟨S3x3x3x64, .f32⟩
  | .hbm, ⟨14, _⟩ => ⟨S9x3x64, .f32⟩
  | .hbm, ⟨15, _⟩ => ⟨S9x3x64, .bf16⟩
  | .hbm, ⟨16, _⟩ => ⟨S3x3x64x128, .f32⟩
  | .hbm, ⟨17, _⟩ => ⟨S9x64x128, .f32⟩
  | .hbm, ⟨18, _⟩ => ⟨S9x64x128, .bf16⟩
  | .hbm, ⟨19, _⟩ => ⟨S3x3x128x214, .f32⟩
  | .hbm, ⟨20, _⟩ => ⟨S9x128x214, .f32⟩
  | .hbm, ⟨21, _⟩ => ⟨S9x128x214, .bf16⟩
  | .hbm, ⟨22, _⟩ => ⟨S1x64, .f32⟩
  | .hbm, ⟨23, _⟩ => ⟨S1x128, .f32⟩
  | .hbm, ⟨24, _⟩ => ⟨S1x214, .f32⟩
  | .hbm, ⟨25, _⟩ => ⟨S214x2, .f32⟩
  | .hbm, ⟨26, _⟩ => ⟨S1x2, .f32⟩
  | .hbm, ⟨27, _⟩ => ⟨S8x224x224, .f32⟩
  | .hbm, ⟨28, _⟩ => ⟨S8x1x214, .f32⟩
  | .hbm, ⟨29, _⟩ => ⟨S6272x8, .i32⟩
  | .hbm, ⟨30, _⟩ => ⟨S8x2, .f32⟩
  | .hbm, ⟨31, _⟩ => ⟨S1x214, .f32⟩
  | .hbm, ⟨32, _⟩ => ⟨S1x214x1x1, .f32⟩
  | .hbm, ⟨33, _⟩ => ⟨S8x214x224x224, .f32⟩
  | .local _ .vmem, ⟨0, _⟩ => ⟨S1x3x230x226, .f32⟩
  | .local _ .vmem, ⟨1, _⟩ => ⟨S1x3x230x226, .f32⟩
  | .local _ .vmem, ⟨2, _⟩ => ⟨S9x3x64, .bf16⟩
  | .local _ .vmem, ⟨3, _⟩ => ⟨S9x64x128, .bf16⟩
  | .local _ .vmem, ⟨4, _⟩ => ⟨S9x128x214, .bf16⟩
  | .local _ .vmem, ⟨5, _⟩ => ⟨S1x64, .f32⟩
  | .local _ .vmem, ⟨6, _⟩ => ⟨S1x128, .f32⟩
  | .local _ .vmem, ⟨7, _⟩ => ⟨S1x214, .f32⟩
  | .local _ .vmem, ⟨8, _⟩ => ⟨S1x32x224, .f32⟩
  | .local _ .vmem, ⟨9, _⟩ => ⟨S1x32x224, .f32⟩
  | .local _ .vmem, ⟨10, _⟩ => ⟨S1x1x214, .f32⟩
  | .local _ .vmem, ⟨11, _⟩ => ⟨S1x1x214, .f32⟩
  | .local _ .vmem, ⟨12, _⟩ => ⟨S6272x8, .i32⟩
  | .local _ .vmem, ⟨13, _⟩ => ⟨S8x1x214, .f32⟩
  | .local _ .vmem, ⟨14, _⟩ => ⟨S214x2, .f32⟩
  | .local _ .vmem, ⟨15, _⟩ => ⟨S1x2, .f32⟩
  | .local _ .vmem, ⟨16, _⟩ => ⟨S8x2, .f32⟩
  | .local _ .vmem, ⟨17, _⟩ => ⟨S1x214, .f32⟩
  | .local _ .vmem, ⟨18, _⟩ => ⟨S1x32x224, .f32⟩
  | .local _ .vmem, ⟨19, _⟩ => ⟨S1x32x224, .f32⟩
  | .local _ .vmem, ⟨20, _⟩ => ⟨S1x214x1x1, .f32⟩
  | .local _ .vmem, ⟨21, _⟩ => ⟨S1x214x32x224, .f32⟩
  | .local _ .vmem, ⟨22, _⟩ => ⟨S1x214x32x224, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_call0_v0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15_0 : Ref sig .tc := ⟨.hbm, 27, rfl⟩
abbrev main_call0_v15_1 : Ref sig .tc := ⟨.hbm, 28, rfl⟩
abbrev main_call0_v16 : Ref sig .tc := ⟨.hbm, 29, rfl⟩
abbrev main_v0_0 : Ref sig .tc := ⟨.hbm, 30, rfl⟩
abbrev main_call0_v17_1 : Ref sig .tc := ⟨.hbm, 31, rfl⟩
abbrev main_call0_v18 : Ref sig .tc := ⟨.hbm, 32, rfl⟩
abbrev main_v0_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem2_1 : DmaSem sig := 22

abbrev nD : Nat := 1
abbrev τ : Topo := Topo.v7x

variable {F : FTy → Type} [FloatOps F]

abbrev grid0 : Pipeline.Grid := ⟨2, ![8, 7], ![false, false]⟩

def k0_off1 (i : grid0.Coords) : Fin 4 → Nat :=
  let c0 : Index := 0#32
  let c0_0 : Index := 0#32
  let arg1 : BitVec 32 := BitVec.ofNat 32 (i 1).val
  let c32_i32 : BitVec 32 := 32#32
  let v0 : BitVec 32 := Scalar.muli arg1 c32_i32
  let v1 : Index := Scalar.indexCast v0
  let c0_1 : Index := 0#32
  ![0, 0, v1.toNat, 0]
def k0_cond1 (i : grid0.Coords) : BitVec 1 :=
  let arg1 : BitVec 32 := BitVec.ofNat 32 (i 1).val
  let c0_i32_92 : BitVec 32 := 0#32
  let v331 : BitVec 1 := Scalar.cmpi .eq arg1 c0_i32_92
  let v332 : BitVec 32 := Scalar.extui v331
  let c0_i32_93 : BitVec 32 := 0#32
  let v333 : BitVec 1 := Scalar.cmpi .ne v332 c0_i32_93
  v333

def k0_cond2 (i : grid0.Coords) : BitVec 1 :=
  let arg1 : BitVec 32 := BitVec.ofNat 32 (i 1).val
  let c0_i32_94 : BitVec 32 := 0#32
  let v334 : BitVec 1 := Scalar.cmpi .ne arg1 c0_i32_94
  let v335 : BitVec 32 := Scalar.extui v334
  let c0_i32_95 : BitVec 32 := 0#32
  let v336 : BitVec 1 := Scalar.cmpi .ne v335 c0_i32_95
  v336

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x230x226 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S9x3x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S9x64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S9x128x214 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x214 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x32x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x214 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := .none

abbrev stage1_0 : Fin 1 → Memref sig .tc .vmem S6272x8 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x1x214 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S214x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x214 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev grid2 : Pipeline.Grid := ⟨2, ![8, 7], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 2 → Memref sig .tc .vmem S1x32x224 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1x214x1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x214x32x224 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]
-- ==== KernelIdeal.lean ====
variable {F : FTy → Type} [FloatOps F] [Named F]
def κ : String → Option EReal := fun
  | "inv_npix" => some ((1 / 50176 : ℝ) : EReal)
  | _ => none
-- ==== ReferenceIdeal.lean ====
abbrev S8x3x224x224 : Shape := ⟨4, ![8, 3, 224, 224]⟩
abbrev S1x224x224 : Shape := ⟨3, ![1, 224, 224]⟩
abbrev S64x3x3x3 : Shape := ⟨4, ![64, 3, 3, 3]⟩
abbrev S64 : Shape := ⟨1, ![64]⟩
abbrev S128x64x3x3 : Shape := ⟨4, ![128, 64, 3, 3]⟩
abbrev S128 : Shape := ⟨1, ![128]⟩
abbrev S214x128x3x3 : Shape := ⟨4, ![214, 128, 3, 3]⟩
abbrev S214 : Shape := ⟨1, ![214]⟩
abbrev S2x214 : Shape := ⟨2, ![2, 214]⟩
abbrev S2 : Shape := ⟨1, ![2]⟩
abbrev S_ : Shape := ⟨0, ![]⟩
abbrev S8x3x226x226 : Shape := ⟨4, ![8, 3, 226, 226]⟩
abbrev S64x3x1x1 : Shape := ⟨4, ![64, 3, 1, 1]⟩
abbrev S64x3 : Shape := ⟨2, ![64, 3]⟩
abbrev S64x8x224x224 : Shape := ⟨4, ![64, 8, 224, 224]⟩
abbrev S8x64x224x224 : Shape := ⟨4, ![8, 64, 224, 224]⟩
abbrev S1x64x1x1 : Shape := ⟨4, ![1, 64, 1, 1]⟩
abbrev S8x64x226x226 : Shape := ⟨4, ![8, 64, 226, 226]⟩
abbrev S128x64x1x1 : Shape := ⟨4, ![128, 64, 1, 1]⟩
abbrev S128x64 : Shape := ⟨2, ![128, 64]⟩
abbrev S128x8x224x224 : Shape := ⟨4, ![128, 8, 224, 224]⟩
abbrev S8x128x224x224 : Shape := ⟨4, ![8, 128, 224, 224]⟩
abbrev S1x128x1x1 : Shape := ⟨4, ![1, 128, 1, 1]⟩
abbrev S8x128x226x226 : Shape := ⟨4, ![8, 128, 226, 226]⟩
abbrev S214x128x1x1 : Shape := ⟨4, ![214, 128, 1, 1]⟩
abbrev S214x128 : Shape := ⟨2, ![214, 128]⟩
abbrev S214x8x224x224 : Shape := ⟨4, ![214, 8, 224, 224]⟩
abbrev S8x214x224x224 : Shape := ⟨4, ![8, 214, 224, 224]⟩
abbrev S1x214x1x1 : Shape := ⟨4, ![1, 214, 1, 1]⟩
abbrev S8x214 : Shape := ⟨2, ![8, 214]⟩
abbrev S214x2 : Shape := ⟨2, ![214, 2]⟩
abbrev S8x2 : Shape := ⟨2, ![8, 2]⟩
abbrev S1x2 : Shape := ⟨2, ![1, 2]⟩
abbrev S8 : Shape := ⟨1, ![8]⟩
abbrev S8x1 : Shape := ⟨2, ![8, 1]⟩
abbrev S224x224 : Shape := ⟨2, ![224, 224]⟩
abbrev S8x224x224 : Shape := ⟨3, ![8, 224, 224]⟩
abbrev S224 : Shape := ⟨1, ![224]⟩
abbrev S224x224x1 : Shape := ⟨3, ![224, 224, 1]⟩
abbrev S224x224x3 : Shape := ⟨3, ![224, 224, 3]⟩
abbrev S50176 : Shape := ⟨1, ![50176]⟩
abbrev S50176x1 : Shape := ⟨2, ![50176, 1]⟩
abbrev S8x1x224x224 : Shape := ⟨4, ![8, 1, 224, 224]⟩

abbrev nBuf : Space → Nat
  | .hbm => 284
  | .vmem => 0
  | .smem => 0
  | _ => 0

abbrev hbmTy0_0 (i : Nat) : BufTy := match i % 128 with
  | 0 => ⟨S8x3x224x224, .f32⟩
  | 1 => ⟨S1x224x224, .i32⟩
  | 2 => ⟨S64x3x3x3, .f32⟩
  | 3 => ⟨S64, .f32⟩
  | 4 => ⟨S128x64x3x3, .f32⟩
  | 5 => ⟨S128, .f32⟩
  | 6 => ⟨S214x128x3x3, .f32⟩
  | 7 => ⟨S214, .f32⟩
  | 8 => ⟨S2x214, .f32⟩
  | 9 => ⟨S2, .f32⟩
  | 10 => ⟨S_, .i32⟩
  | 11 => ⟨S_, .f32⟩
  | 12 => ⟨S8x3x226x226, .f32⟩
  | 13 => ⟨S8x3x224x224, .f32⟩
  | 14 => ⟨S64x3x1x1, .f32⟩
  | 15 => ⟨S64x3, .f32⟩
  | 16 => ⟨S64x8x224x224, .f32⟩
  | 17 => ⟨S8x64x224x224, .f32⟩
  | 18 => ⟨S8x3x224x224, .f32⟩
  | 19 => ⟨S64x3x1x1, .f32⟩
  | 20 => ⟨S64x3, .f32⟩
  | 21 => ⟨S64x8x224x224, .f32⟩
  | 22 => ⟨S8x64x224x224, .f32⟩
  | 23 => ⟨S8x64x224x224, .f32⟩
  | 24 => ⟨S8x3x224x224, .f32⟩
  | 25 => ⟨S64x3x1x1, .f32⟩
  | 26 => ⟨S64x3, .f32⟩
  | 27 => ⟨S64x8x224x224, .f32⟩
  | 28 => ⟨S8x64x224x224, .f32⟩
  | 29 => ⟨S8x64x224x224, .f32⟩
  | 30 => ⟨S8x3x224x224, .f32⟩
  | 31 => ⟨S64x3x1x1, .f32⟩
  | 32 => ⟨S64x3, .f32⟩
  | 33 => ⟨S64x8x224x224, .f32⟩
  | 34 => ⟨S8x64x224x224, .f32⟩
  | 35 => ⟨S8x64x224x224, .f32⟩
  | 36 => ⟨S8x3x224x224, .f32⟩
  | 37 => ⟨S64x3x1x1, .f32⟩
  | 38 => ⟨S64x3, .f32⟩
  | 39 => ⟨S64x8x224x224, .f32⟩
  | 40 => ⟨S8x64x224x224, .f32⟩
  | 41 => ⟨S8x64x224x224, .f32⟩
  | 42 => ⟨S8x3x224x224, .f32⟩
  | 43 => ⟨S64x3x1x1, .f32⟩
  | 44 => ⟨S64x3, .f32⟩
  | 45 => ⟨S64x8x224x224, .f32⟩
  | 46 => ⟨S8x64x224x224, .f32⟩
  | 47 => ⟨S8x64x224x224, .f32⟩
  | 48 => ⟨S8x3x224x224, .f32⟩
  | 49 => ⟨S64x3x1x1, .f32⟩
  | 50 => ⟨S64x3, .f32⟩
  | 51 => ⟨S64x8x224x224, .f32⟩
  | 52 => ⟨S8x64x224x224, .f32⟩
  | 53 => ⟨S8x64x224x224, .f32⟩
  | 54 => ⟨S8x3x224x224, .f32⟩
  | 55 => ⟨S64x3x1x1, .f32⟩
  | 56 => ⟨S64x3, .f32⟩
  | 57 => ⟨S64x8x224x224, .f32⟩
  | 58 => ⟨S8x64x224x224, .f32⟩
  | 59 => ⟨S8x64x224x224, .f32⟩
  | 60 => ⟨S8x3x224x224, .f32⟩
  | 61 => ⟨S64x3x1x1, .f32⟩
  | 62 => ⟨S64x3, .f32⟩
  | 63 => ⟨S64x8x224x224, .f32⟩
  | 64 => ⟨S8x64x224x224, .f32⟩
  | 65 => ⟨S8x64x224x224, .f32⟩
  | 66 => ⟨S1x64x1x1, .f32⟩
  | 67 => ⟨S8x64x224x224, .f32⟩
  | 68 => ⟨S8x64x224x224, .f32⟩
  | 69 => ⟨S_, .f32⟩
  | 70 => ⟨S8x64x224x224, .f32⟩
  | 71 => ⟨S8x64x224x224, .f32⟩
  | 72 => ⟨S_, .i32⟩
  | 73 => ⟨S_, .f32⟩
  | 74 => ⟨S8x64x226x226, .f32⟩
  | 75 => ⟨S8x64x224x224, .f32⟩
  | 76 => ⟨S128x64x1x1, .f32⟩
  | 77 => ⟨S128x64, .f32⟩
  | 78 => ⟨S128x8x224x224, .f32⟩
  | 79 => ⟨S8x128x224x224, .f32⟩
  | 80 => ⟨S8x64x224x224, .f32⟩
  | 81 => ⟨S128x64x1x1, .f32⟩
  | 82 => ⟨S128x64, .f32⟩
  | 83 => ⟨S128x8x224x224, .f32⟩
  | 84 => ⟨S8x128x224x224, .f32⟩
  | 85 => ⟨S8x128x224x224, .f32⟩
  | 86 => ⟨S8x64x224x224, .f32⟩
  | 87 => ⟨S128x64x1x1, .f32⟩
  | 88 => ⟨S128x64, .f32⟩
  | 89 => ⟨S128x8x224x224, .f32⟩
  | 90 => ⟨S8x128x224x224, .f32⟩
  | 91 => ⟨S8x128x224x224, .f32⟩
  | 92 => ⟨S8x64x224x224, .f32⟩
  | 93 => ⟨S128x64x1x1, .f32⟩
  | 94 => ⟨S128x64, .f32⟩
  | 95 => ⟨S128x8x224x224, .f32⟩
  | 96 => ⟨S8x128x224x224, .f32⟩
  | 97 => ⟨S8x128x224x224, .f32⟩
  | 98 => ⟨S8x64x224x224, .f32⟩
  | 99 => ⟨S128x64x1x1, .f32⟩
  | 100 => ⟨S128x64, .f32⟩
  | 101 => ⟨S128x8x224x224, .f32⟩
  | 102 => ⟨S8x128x224x224, .f32⟩
  | 103 => ⟨S8x128x224x224, .f32⟩
  | 104 => ⟨S8x64x224x224, .f32⟩
  | 105 => ⟨S128x64x1x1, .f32⟩
  | 106 => ⟨S128x64, .f32⟩
  | 107 => ⟨S128x8x224x224, .f32⟩
  | 108 => ⟨S8x128x224x224, .f32⟩
  | 109 => ⟨S8x128x224x224, .f32⟩
  | 110 => ⟨S8x64x224x224, .f32⟩
  | 111 => ⟨S128x64x1x1, .f32⟩
  | 112 => ⟨S128x64, .f32⟩
  | 113 => ⟨S128x8x224x224, .f32⟩
  | 114 => ⟨S8x128x224x224, .f32⟩
  | 115 => ⟨S8x128x224x224, .f32⟩
  | 116 => ⟨S8x64x224x224, .f32⟩
  | 117 => ⟨S128x64x1x1, .f32⟩
  | 118 => ⟨S128x64, .f32⟩
  | 119 => ⟨S128x8x224x224, .f32⟩
  | 120 => ⟨S8x128x224x224, .f32⟩
  | 121 => ⟨S8x128x224x224, .f32⟩
  | 122 => ⟨S8x64x224x224, .f32⟩
  | 123 => ⟨S128x64x1x1, .f32⟩
  | 124 => ⟨S128x64, .f32⟩
  | 125 => ⟨S128x8x224x224, .f32⟩
  | 126 => ⟨S8x128x224x224, .f32⟩
  | 127 => ⟨S8x128x224x224, .f32⟩
  | _ => ⟨S8x3x224x224, .f32⟩

abbrev hbmTy0_1 (i : Nat) : BufTy := match i % 128 with
  | 0 => ⟨S1x128x1x1, .f32⟩
  | 1 => ⟨S8x128x224x224, .f32⟩
  | 2 => ⟨S8x128x224x224, .f32⟩
  | 3 => ⟨S_, .f32⟩
  | 4 => ⟨S8x128x224x224, .f32⟩
  | 5 => ⟨S8x128x224x224, .f32⟩
  | 6 => ⟨S_, .i32⟩
  | 7 => ⟨S_, .f32⟩
  | 8 => ⟨S8x128x226x226, .f32⟩
  | 9 => ⟨S8x128x224x224, .f32⟩
  | 10 => ⟨S214x128x1x1, .f32⟩
  | 11 => ⟨S214x128, .f32⟩
  | 12 => ⟨S214x8x224x224, .f32⟩
  | 13 => ⟨S8x214x224x224, .f32⟩
  | 14 => ⟨S8x128x224x224, .f32⟩
  | 15 => ⟨S214x128x1x1, .f32⟩
  | 16 => ⟨S214x128, .f32⟩
  | 17 => ⟨S214x8x224x224, .f32⟩
  | 18 => ⟨S8x214x224x224, .f32⟩
  | 19 => ⟨S8x214x224x224, .f32⟩
  | 20 => ⟨S8x128x224x224, .f32⟩
  | 21 => ⟨S214x128x1x1, .f32⟩
  | 22 => ⟨S214x128, .f32⟩
  | 23 => ⟨S214x8x224x224, .f32⟩
  | 24 => ⟨S8x214x224x224, .f32⟩
  | 25 => ⟨S8x214x224x224, .f32⟩
  | 26 => ⟨S8x128x224x224, .f32⟩
  | 27 => ⟨S214x128x1x1, .f32⟩
  | 28 => ⟨S214x128, .f32⟩
  | 29 => ⟨S214x8x224x224, .f32⟩
  | 30 => ⟨S8x214x224x224, .f32⟩
  | 31 => ⟨S8x214x224x224, .f32⟩
  | 32 => ⟨S8x128x224x224, .f32⟩
  | 33 => ⟨S214x128x1x1, .f32⟩
  | 34 => ⟨S214x128, .f32⟩
  | 35 => ⟨S214x8x224x224, .f32⟩
  | 36 => ⟨S8x214x224x224, .f32⟩
  | 37 => ⟨S8x214x224x224, .f32⟩
  | 38 => ⟨S8x128x224x224, .f32⟩
  | 39 => ⟨S214x128x1x1, .f32⟩
  | 40 => ⟨S214x128, .f32⟩
  | 41 => ⟨S214x8x224x224, .f32⟩
  | 42 => ⟨S8x214x224x224, .f32⟩
  | 43 => ⟨S8x214x224x224, .f32⟩
  | 44 => ⟨S8x128x224x224, .f32⟩
  | 45 => ⟨S214x128x1x1, .f32⟩
  | 46 => ⟨S214x128, .f32⟩
  | 47 => ⟨S214x8x224x224, .f32⟩
  | 48 => ⟨S8x214x224x224, .f32⟩
  | 49 => ⟨S8x214x224x224, .f32⟩
  | 50 => ⟨S8x128x224x224, .f32⟩
  | 51 => ⟨S214x128x1x1, .f32⟩
  | 52 => ⟨S214x128, .f32⟩
  | 53 => ⟨S214x8x224x224, .f32⟩
  | 54 => ⟨S8x214x224x224, .f32⟩
  | 55 => ⟨S8x214x224x224, .f32⟩
  | 56 => ⟨S8x128x224x224, .f32⟩
  | 57 => ⟨S214x128x1x1, .f32⟩
  | 58 => ⟨S214x128, .f32⟩
  | 59 => ⟨S214x8x224x224, .f32⟩
  | 60 => ⟨S8x214x224x224, .f32⟩
  | 61 => ⟨S8x214x224x224, .f32⟩
  | 62 => ⟨S1x214x1x1, .f32⟩
  | 63 => ⟨S8x214x224x224, .f32⟩
  | 64 => ⟨S8x214x224x224, .f32⟩
  | 65 => ⟨S_, .f32⟩
  | 66 => ⟨S8x214x224x224, .f32⟩
  | 67 => ⟨S8x214x224x224, .f32⟩
  | 68 => ⟨S_, .f32⟩
  | 69 => ⟨S8x214, .f32⟩
  | 70 => ⟨S_, .f32⟩
  | 71 => ⟨S8x214, .f32⟩
  | 72 => ⟨S8x214, .f32⟩
  | 73 => ⟨S214x2, .f32⟩
  | 74 => ⟨S8x2, .f32⟩
  | 75 => ⟨S1x2, .f32⟩
  | 76 => ⟨S8x2, .f32⟩
  | 77 => ⟨S8x2, .f32⟩
  | 78 => ⟨S_, .f32⟩
  | 79 => ⟨S8, .f32⟩
  | 80 => ⟨S_, .f32⟩
  | 81 => ⟨S8, .f32⟩
  | 82 => ⟨S8, .f32⟩
  | 83 => ⟨S8x1, .f32⟩
  | 84 => ⟨S8x2, .f32⟩
  | 85 => ⟨S8x2, .f32⟩
  | 86 => ⟨S8x2, .f32⟩
  | 87 => ⟨S_, .f32⟩
  | 88 => ⟨S8, .f32⟩
  | 89 => ⟨S8x1, .f32⟩
  | 90 => ⟨S8x2, .f32⟩
  | 91 => ⟨S8x2, .f32⟩
  | 92 => ⟨S224x224, .i32⟩
  | 93 => ⟨S_, .f32⟩
  | 94 => ⟨S8x224x224, .f32⟩
  | 95 => ⟨S224, .i32⟩
  | 96 => ⟨S224, .i32⟩
  | 97 => ⟨S224x224, .i32⟩
  | 98 => ⟨S224x224, .i32⟩
  | 99 => ⟨S_, .f32⟩
  | 100 => ⟨S8x214x224x224, .f32⟩
  | 101 => ⟨S_, .i32⟩
  | 102 => ⟨S224x224, .i32⟩
  | 103 => ⟨S224x224, .i1⟩
  | 104 => ⟨S_, .i32⟩
  | 105 => ⟨S224x224, .i32⟩
  | 106 => ⟨S224x224, .i32⟩
  | 107 => ⟨S224x224, .i32⟩
  | 108 => ⟨S_, .i32⟩
  | 109 => ⟨S224x224, .i32⟩
  | 110 => ⟨S224x224, .i1⟩
  | 111 => ⟨S_, .i32⟩
  | 112 => ⟨S224x224, .i32⟩
  | 113 => ⟨S224x224, .i32⟩
  | 114 => ⟨S224x224, .i32⟩
  | 115 => ⟨S_, .i32⟩
  | 116 => ⟨S224x224, .i32⟩
  | 117 => ⟨S224x224, .i1⟩
  | 118 => ⟨S_, .i32⟩
  | 119 => ⟨S224x224, .i32⟩
  | 120 => ⟨S224x224, .i32⟩
  | 121 => ⟨S224x224, .i32⟩
  | 122 => ⟨S224x224x1, .i32⟩
  | 123 => ⟨S224x224x1, .i32⟩
  | 124 => ⟨S224x224x1, .i32⟩
  | 125 => ⟨S224x224x3, .i32⟩
  | 126 => ⟨S8x214x224x224, .f32⟩
  | 127 => ⟨S50176, .i32⟩
  | _ => ⟨S8x3x224x224, .f32⟩

abbrev hbmTy0_2 (i : Nat) : BufTy := match i % 128 with
  | 0 => ⟨S_, .i32⟩
  | 1 => ⟨S214, .i32⟩
  | 2 => ⟨S_, .i32⟩
  | 3 => ⟨S_, .i32⟩
  | 4 => ⟨S50176, .i32⟩
  | 5 => ⟨S50176, .i32⟩
  | 6 => ⟨S_, .i32⟩
  | 7 => ⟨S50176, .i32⟩
  | 8 => ⟨S50176, .i1⟩
  | 9 => ⟨S_, .i32⟩
  | 10 => ⟨S50176, .i32⟩
  | 11 => ⟨S50176, .i32⟩
  | 12 => ⟨S50176, .i32⟩
  | 13 => ⟨S50176x1, .i32⟩
  | 14 => ⟨S_, .i32⟩
  | 15 => ⟨S50176, .i32⟩
  | 16 => ⟨S214, .i32⟩
  | 17 => ⟨S214, .f32⟩
  | 18 => ⟨S_, .f32⟩
  | 19 => ⟨S214, .f32⟩
  | 20 => ⟨S214, .f32⟩
  | 21 => ⟨S_, .f32⟩
  | 22 => ⟨S8x224x224, .f32⟩
  | 23 => ⟨S8x1x224x224, .f32⟩
  | 24 => ⟨S1x214x1x1, .f32⟩
  | 25 => ⟨S8x214x224x224, .f32⟩
  | 26 => ⟨S8x214x224x224, .f32⟩
  | 27 => ⟨S8x214x224x224, .f32⟩
  | _ => ⟨S8x3x224x224, .f32⟩

abbrev hbmTy (i : Nat) : BufTy := match i / 128 with
  | 0 => hbmTy0_0 i
  | 1 => hbmTy0_1 i
  | 2 => hbmTy0_2 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_call0_v0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_call1_cst : Ref sig .tc := ⟨.hbm, 69, rfl⟩
abbrev main_call1_v0 : Ref sig .tc := ⟨.hbm, 70, rfl⟩
abbrev main_v57 : Ref sig .tc := ⟨.hbm, 71, rfl⟩
abbrev main_c_0 : Ref sig .tc := ⟨.hbm, 72, rfl⟩
abbrev main_call2_v0 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_call3_cst : Ref sig .tc := ⟨.hbm, 131, rfl⟩
abbrev main_call3_v0 : Ref sig .tc := ⟨.hbm, 132, rfl⟩
abbrev main_v115 : Ref sig .tc := ⟨.hbm, 133, rfl⟩
abbrev main_c_1 : Ref sig .tc := ⟨.hbm, 134, rfl⟩
abbrev main_call4_v0 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_v137 : Ref sig .tc := ⟨.hbm, 157, rfl⟩
abbrev main_v138 : Ref sig .tc := ⟨.hbm, 158, rfl⟩
abbrev main_v139 : Ref sig .tc := ⟨.hbm, 159, rfl⟩
abbrev main_v140 : Ref sig .tc := ⟨.hbm, 160, rfl⟩
abbrev main_v141 : Ref sig .tc := ⟨.hbm, 161, rfl⟩
abbrev main_v142 : Ref sig .tc := ⟨.hbm, 162, rfl⟩
abbrev main_v143 : Ref sig .tc := ⟨.hbm, 163, rfl⟩
abbrev main_v144 : Ref sig .tc := ⟨.hbm, 164, rfl⟩
abbrev main_v145 : Ref sig .tc := ⟨.hbm, 165, rfl⟩
abbrev main_v146 : Ref sig .tc := ⟨.hbm, 166, rfl⟩
abbrev main_v147 : Ref sig .tc := ⟨.hbm, 167, rfl⟩
abbrev main_v148 : Ref sig .tc := ⟨.hbm, 168, rfl⟩
abbrev main_v149 : Ref sig .tc := ⟨.hbm, 169, rfl⟩
abbrev main_v150 : Ref sig .tc := ⟨.hbm, 170, rfl⟩
abbrev main_v151 : Ref sig .tc := ⟨.hbm, 171, rfl⟩
abbrev main_v152 : Ref sig .tc := ⟨.hbm, 172, rfl⟩
abbrev main_v153 : Ref sig .tc := ⟨.hbm, 173, rfl⟩
abbrev main_v154 : Ref sig .tc := ⟨.hbm, 174, rfl⟩
abbrev main_v155 : Ref sig .tc := ⟨.hbm, 175, rfl⟩
abbrev main_v156 : Ref sig .tc := ⟨.hbm, 176, rfl⟩
abbrev main_v157 : Ref sig .tc := ⟨.hbm, 177, rfl⟩
abbrev main_v158 : Ref sig .tc := ⟨.hbm, 178, rfl⟩
abbrev main_v159 : Ref sig .tc := ⟨.hbm, 179, rfl⟩
abbrev main_v160 : Ref sig .tc := ⟨.hbm, 180, rfl⟩
abbrev main_v161 : Ref sig .tc := ⟨.hbm, 181, rfl⟩
abbrev main_v162 : Ref sig .tc := ⟨.hbm, 182, rfl⟩
abbrev main_v163 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_v170 : Ref sig .tc := ⟨.hbm, 190, rfl⟩
abbrev main_v171 : Ref sig .tc := ⟨.hbm, 191, rfl⟩
abbrev main_v172 : Ref sig .tc := ⟨.hbm, 192, rfl⟩
abbrev main_call5_cst : Ref sig .tc := ⟨.hbm, 193, rfl⟩
abbrev main_call5_v0 : Ref sig .tc := ⟨.hbm, 194, rfl⟩
abbrev main_v173 : Ref sig .tc := ⟨.hbm, 195, rfl⟩
abbrev main_cst : Ref sig .tc := ⟨.hbm, 196, rfl⟩
abbrev main_v174 : Ref sig .tc := ⟨.hbm, 197, rfl⟩
abbrev main_cst_2 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_cst_3 : Ref sig .tc := ⟨.hbm, 206, rfl⟩
abbrev main_v182 : Ref sig .tc := ⟨.hbm, 207, rfl⟩
abbrev main_cst_4 : Ref sig .tc := ⟨.hbm, 208, rfl⟩
abbrev main_v183 : Ref sig .tc := ⟨.hbm, 209, rfl⟩
abbrev main_v184 : Ref sig .tc := ⟨.hbm, 210, rfl⟩
abbrev main_v185 : Ref sig .tc := ⟨.hbm, 211, rfl⟩
abbrev main_v186 : Ref sig .tc := ⟨.hbm, 212, rfl⟩
abbrev main_v187 : Ref sig .tc := ⟨.hbm, 213, rfl⟩
abbrev main_v188 : Ref sig .tc := ⟨.hbm, 214, rfl⟩
abbrev main_cst_5 : Ref sig .tc := ⟨.hbm, 215, rfl⟩
abbrev main_v189 : Ref sig .tc := ⟨.hbm, 216, rfl⟩
abbrev main_v190 : Ref sig .tc := ⟨.hbm, 217, rfl⟩
abbrev main_v191 : Ref sig .tc := ⟨.hbm, 218, rfl⟩
abbrev main_v192 : Ref sig .tc := ⟨.hbm, 219, rfl⟩
abbrev main_v193 : Ref sig .tc := ⟨.hbm, 220, rfl⟩
abbrev main_cst_6 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_cst_7 : Ref sig .tc := ⟨.hbm, 227, rfl⟩
abbrev main_v199 : Ref sig .tc := ⟨.hbm, 228, rfl⟩
abbrev main_c_8 : Ref sig .tc := ⟨.hbm, 229, rfl⟩
abbrev main_v200 : Ref sig .tc := ⟨.hbm, 230, rfl⟩
abbrev main_v201 : Ref sig .tc := ⟨.hbm, 231, rfl⟩
abbrev main_c_9 : Ref sig .tc := ⟨.hbm, 232, rfl⟩
abbrev main_v202 : Ref sig .tc := ⟨.hbm, 233, rfl⟩
abbrev main_v203 : Ref sig .tc := ⟨.hbm, 234, rfl⟩
abbrev main_v204 : Ref sig .tc := ⟨.hbm, 235, rfl⟩
abbrev main_c_10 : Ref sig .tc := ⟨.hbm, 236, rfl⟩
abbrev main_v205 : Ref sig .tc := ⟨.hbm, 237, rfl⟩
abbrev main_v206 : Ref sig .tc := ⟨.hbm, 238, rfl⟩
abbrev main_c_11 : Ref sig .tc := ⟨.hbm, 239, rfl⟩
abbrev main_v207 : Ref sig .tc := ⟨.hbm, 240, rfl⟩
abbrev main_v208 : Ref sig .tc := ⟨.hbm, 241, rfl⟩
abbrev main_v209 : Ref sig .tc := ⟨.hbm, 242, rfl⟩
abbrev main_c_12 : Ref sig .tc := ⟨.hbm, 243, rfl⟩
abbrev main_v210 : Ref sig .tc := ⟨.hbm, 244, rfl⟩
abbrev main_v211 : Ref sig .tc := ⟨.hbm, 245, rfl⟩
abbrev main_c_13 : Ref sig .tc := ⟨.hbm, 246, rfl⟩
abbrev main_v212 : Ref sig .tc := ⟨.hbm, 247, rfl⟩
abbrev main_v213 : Ref sig .tc := ⟨.hbm, 248, rfl⟩
abbrev main_v214 : Ref sig .tc := ⟨.hbm, 249, rfl⟩
abbrev main_v215 : Ref sig .tc := ⟨.hbm, 250, rfl⟩
abbrev main_v216 : Ref sig .tc := ⟨.hbm, 251, rfl⟩
abbrev main_v217 : Ref sig .tc := ⟨.hbm, 252, rfl⟩
abbrev main_v218 : Ref sig .tc := ⟨.hbm, 253, rfl⟩
abbrev main_v219 : Ref sig .tc := ⟨.hbm, 254, rfl⟩
abbrev main_v220 : Ref sig .tc := ⟨.hbm, 255, rfl⟩
abbrev main_c_14 : Ref sig .tc := ⟨.hbm, 256, rfl⟩
abbrev main_v221 : Ref sig .tc := ⟨.hbm, 257, rfl⟩
abbrev main_c_15 : Ref sig .tc := ⟨.hbm, 258, rfl⟩
abbrev main_call6_v0 : Ref sig .tc := ⟨.hbm, 259, rfl⟩
abbrev main_call6_v1 : Ref sig .tc := ⟨.hbm, 260, rfl⟩
abbrev main_v222 : Ref sig .tc := ⟨.hbm, 261, rfl⟩
abbrev main_c_16 : Ref sig .tc := ⟨.hbm, 262, rfl⟩
abbrev main_v223 : Ref sig .tc := ⟨.hbm, 263, rfl⟩
abbrev main_v224 : Ref sig .tc := ⟨.hbm, 264, rfl⟩
abbrev main_c_17 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_v228 : Ref sig .tc := ⟨.hbm, 269, rfl⟩
abbrev main_c_18 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_cst_19 : Ref sig .tc := ⟨.hbm, 274, rfl⟩
abbrev main_v232 : Ref sig .tc := ⟨.hbm, 275, rfl⟩
abbrev main_v233 : Ref sig .tc := ⟨.hbm, 276, rfl⟩
abbrev main_cst_20 : Ref sig .tc := ⟨.hbm, 277, rfl⟩
abbrev main_v234 : Ref sig .tc := ⟨.hbm, 278, rfl⟩
abbrev main_v235 : Ref sig .tc := ⟨.hbm, 279, rfl⟩
abbrev main_v236 : Ref sig .tc := ⟨.hbm, 280, rfl⟩
abbrev main_v237 : Ref sig .tc := ⟨.hbm, 281, rfl⟩
abbrev main_v238 : Ref sig .tc := ⟨.hbm, 282, rfl⟩
abbrev main_v239 : Ref sig .tc := ⟨.hbm, 283, rfl⟩

abbrev nD : Nat := 1
abbrev τ : Topo := Topo.v7x

variable {F : FTy → Type} [FloatOps F]
-- ==== Proof.KernelIdealRun.Trunk.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

/-! The body of the trunk call at a grid point: it leaves every input block as it was, writes the block of channel sums, and either starts or continues the running sum of the pooled block. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := k0_cond1 i = 1#1

theorem hcond0_0 : ∀ t : Fin cfg0.N, cond0_0 (grid0.coords t) ↔ t.val % 7 = 0 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_0, k0_cond1, e0, e1]
    word_cmp
   : ∀ t : Fin grid0.N, cond0_0 (grid0.coords t) ↔ t.val % 7 = 0)

abbrev cond0_1 (i : grid0.Coords) : Prop := k0_cond2 i = 1#1

theorem hcond0_1 : ∀ t : Fin cfg0.N, cond0_1 (grid0.coords t) ↔ 1 ≤ t.val % 7 :=
  (fun t => by
    have ht : t.val < 56 := Nat.lt_of_lt_of_eq t.isLt N_0
    have e0 : (grid0.coords t 0).val = t.val / 7 % 8 := Pipeline.Grid.coords_val t 0 (by decide) rfl
    have e1 : (grid0.coords t 1).val = t.val / 1 % 7 := Pipeline.Grid.coords_val t 1 (by decide) rfl
    simp only [cond0_1, k0_cond2, e0, e1]
    word_cmp
   : ∀ t : Fin grid0.N, cond0_1 (grid0.coords t) ↔ 1 ≤ t.val % 7)

theorem liveAt0_0 : ∀ t : Fin cfg0.N, cfg0.idle 0 (grid0.coords t) = false := fun _ => rfl

theorem liveAt0_1 : ∀ t : Fin cfg0.N, cfg0.idle 1 (grid0.coords t) = false := fun _ => rfl

theorem liveAt0_2 : ∀ t : Fin cfg0.N, cfg0.idle 2 (grid0.coords t) = false := fun _ => rfl

theorem liveAt0_3 : ∀ t : Fin cfg0.N, cfg0.idle 3 (grid0.coords t) = false := fun _ => rfl

theorem liveAt0_4 : ∀ t : Fin cfg0.N, cfg0.idle 4 (grid0.coords t) = false := fun _ => rfl

theorem liveAt0_5 : ∀ t : Fin cfg0.N, cfg0.idle 5 (grid0.coords t) = false := fun _ => rfl

theorem liveAt0_6 : ∀ t : Fin cfg0.N, cfg0.idle 6 (grid0.coords t) = false := fun _ => rfl

theorem liveAt0_7 : ∀ t : Fin cfg0.N, cfg0.idle 7 (grid0.coords t) = false := fun _ => rfl

def freshTab0_8 : ℕ → Bool
  | 0 => true
  | n + 1 => (0x81020408102040 : ℕ).testBit n
theorem freshTab0_8_step : ∀ t : Fin cfg0.N,
    freshTab0_8 (t.val + 1) = ((cfg0.win 8).flush t || (cfg0.idle 8 (cfg0.grid.coords t) && freshTab0_8 t.val)) := by decide +kernel
theorem fresh0_8_eq (t : Fin cfg0.N) : cfg0.fresh 8 t.val = freshTab0_8 t.val :=
  Pipeline.Cfg.fresh_tab cfg0 8 freshTab0_8 rfl freshTab0_8_step t.val (Nat.le_of_lt t.isLt)

theorem liveAt0_8_A : ∀ t : Fin cfg0.N, cond0_0 (grid0.coords t) → ¬cond0_1 (grid0.coords t) → cfg0.idle 8 (grid0.coords t) = false := by decide +kernel

theorem liveAt0_8_B : ∀ t : Fin cfg0.N, ¬cond0_0 (grid0.coords t) → cond0_1 (grid0.coords t) → cfg0.idle 8 (grid0.coords t) = false := by decide +kernel

theorem notFresh0_8_B : ∀ t : Fin cfg0.N, ¬cond0_0 (grid0.coords t) → cond0_1 (grid0.coords t) → cfg0.fresh 8 t.val = false := by
  intro t; rw [fresh0_8_eq t]; revert t; decide +kernel

abbrev VO0_7 : View sig .tc .vmem S1x32x224 .f32 := (Memref.whole cc0_stg7_0 : Memref sig .tc .vmem S1x32x224 .f32).view

abbrev VO0_8 : View sig .tc .vmem S1x1x214 .f32 := (Memref.whole cc0_stg8_0 : Memref sig .tc .vmem S1x1x214 .f32).view

abbrev ms0_0 (t : Fin cfg0.N) : Memref sig .tc .vmem S1x3x230x226 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S9x3x64 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S9x64x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S9x128x214 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x64 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x214 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x32x224 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x214 .f32 := win0_8.stage (cfg0.slots t 8)
abbrev hs0_8 (t : Fin cfg0.N) : (ms0_8 t).IsWhole := hstage0_8 ((cfg0.slots t 8).cast nbuf0_8)
set_option maxHeartbeats 1000000 in

noncomputable def kernelRun0_A (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : cond0_0 i) (hc1 : ¬cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) :
    Σ' (L7 : List (View.Piece (Elt F) S1x32x224 .f32)), { L8 : List (View.Piece (Elt F) S1x1x214 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__trunk_kernel i arg2 harg2 arg3 harg3 arg4 harg4 arg5 harg5 arg6 harg6 arg7 harg7 arg8 harg8 arg9 harg9 arg10 harg10) K } := by
  refine ⟨?_, ?_, fun E K => ?run⟩
  case run =>
    simp only [cc0__trunk_kernel_eq_skeleton]; unfold cc0__trunk_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

theorem cover0_A_7 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : cond0_0 i) (hc1 : ¬cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) (y : S1x32x224.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).1 S1x32x224.size (by sl_kernel_rfl) y

def out0_A_7 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : cond0_0 i) (hc1 : ¬cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) : Vec F S1x32x224 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4 x5 x6).1)

theorem cover0_A_8 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : cond0_0 i) (hc1 : ¬cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) (y : S1x1x214.Idx) :
    ∃ pc ∈ (kernelRun0_A c i arg2 harg2 arg3 harg3 arg4 harg4 arg5 harg5 arg6 harg6 arg7 harg7 arg8 harg8 arg9 harg9 arg10 harg10 hc0 hc1 x0 x1 x2 x3 x4 x5 x6).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4 x5 x6).2.1 S1x1x214.size (by sl_kernel_rfl) y

def out0_A_8 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : cond0_0 i) (hc1 : ¬cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) : Vec F S1x1x214 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 hc0 hc1 x0 x1 x2 x3 x4 x5 x6).2.1)
set_option maxHeartbeats 1000000 in

noncomputable def kernelRun0_B (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : ¬cond0_0 i) (hc1 : cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) (xo8 : Vec F S1x1x214 .f32) :
    Σ' (L7 : List (View.Piece (Elt F) S1x32x224 .f32)), { L8 : List (View.Piece (Elt F) S1x1x214 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ owns (c : Thread nD τ) arg10 fullShare xo8
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8)) -∗ K ⟨⟩))
          ⊢ wp frame (wpE (defs₀ (F := F)) Variants.none c none) E (cc0__trunk_kernel i arg2 harg2 arg3 harg3 arg4 harg4 arg5 harg5 arg6 harg6 arg7 harg7 arg8 harg8 arg9 harg9 arg10 harg10) K } := by
  refine ⟨?_, ?_, fun E K => ?run⟩
  case run =>
    simp only [cc0__trunk_kernel_eq_skeleton]; unfold cc0__trunk_kernel_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg10.eq_unread hf8
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    iexists _; iexact H8

theorem cover0_B_7 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : ¬cond0_0 i) (hc1 : cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) (xo8 : Vec F S1x1x214 .f32) (y : S1x32x224.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xo8).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xo8).1 S1x32x224.size (by sl_kernel_rfl) y

def out0_B_7 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : ¬cond0_0 i) (hc1 : cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) (xo8 : Vec F S1x1x214 .f32) : Vec F S1x32x224 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 hc0 hc1 x0 x1 x2 x3 x4 x5 x6 xo8).1)

theorem cover0_B_8 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : ¬cond0_0 i) (hc1 : cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) (xo8 : Vec F S1x1x214 .f32) (y : S1x1x214.Idx) :
    ∃ pc ∈ (kernelRun0_B c i arg2 harg2 arg3 harg3 arg4 harg4 arg5 harg5 arg6 harg6 arg7 harg7 arg8 harg8 arg9 harg9 arg10 harg10 hc0 hc1 x0 x1 x2 x3 x4 x5 x6 xo8).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 x5 x6 xo8).2.1 S1x1x214.size (by sl_kernel_rfl) y

def out0_B_8 (c : Dev nD) (i : grid0.Coords) (arg2 : Memref sig .tc .vmem S1x3x230x226 .f32) (harg2 : arg2.IsWhole) (arg3 : Memref sig .tc .vmem S9x3x64 .bf16) (harg3 : arg3.IsWhole) (arg4 : Memref sig .tc .vmem S9x64x128 .bf16) (harg4 : arg4.IsWhole) (arg5 : Memref sig .tc .vmem S9x128x214 .bf16) (harg5 : arg5.IsWhole) (arg6 : Memref sig .tc .vmem S1x64 .f32) (harg6 : arg6.IsWhole) (arg7 : Memref sig .tc .vmem S1x128 .f32) (harg7 : arg7.IsWhole) (arg8 : Memref sig .tc .vmem S1x214 .f32) (harg8 : arg8.IsWhole) (arg9 : Memref sig .tc .vmem S1x32x224 .f32) (harg9 : arg9.IsWhole) (arg10 : Memref sig .tc .vmem S1x1x214 .f32) (harg10 : arg10.IsWhole) (hc0 : ¬cond0_0 i) (hc1 : cond0_1 i)
    (x0 : Vec F S1x3x230x226 .f32) (x1 : Vec F S9x3x64 .bf16) (x2 : Vec F S9x64x128 .bf16) (x3 : Vec F S9x128x214 .bf16) (x4 : Vec F S1x64 .f32) (x5 : Vec F S1x128 .f32) (x6 : Vec F S1x214 .f32) (xo8 : Vec F S1x1x214 .f32) : Vec F S1x1x214 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 hc0 hc1 x0 x1 x2 x3 x4 x5 x6 xo8).2.1)

def outsAt0 (c : Dev nD) : (n : ℕ) → n < cfg0.N → Vec F S1x32x224 .f32 × Vec F S1x1x214 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩))
  | n + 1, hn =>
    if h0 : (n + 1) % 7 = 0 then
      if h1 : 1 ≤ (n + 1) % 7 then
        False.elim (by have hN : n + 1 < 56 := lt_of_lt_of_eq hn (show cfg0.N = 56 from N_0); omega)
      else
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩))
    else
      if h1 : 1 ≤ (n + 1) % 7 then
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (outsAt0 c n (Nat.lt_of_succ_lt hn)).2)
      else
        False.elim (by have hN : n + 1 < 56 := lt_of_lt_of_eq hn (show cfg0.N = 56 from N_0); omega)

theorem outsAt0_A (c : Dev nD) (t : Fin cfg0.N) (h0 : t.val % 7 = 0) (h1 : ¬1 ≤ t.val % 7) :
    outsAt0 V c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)) := by
  obtain ⟨n, hn⟩ := t
  cases n with
  | zero => exact rfl
  | succ n => exact (dif_pos h0).trans ((dif_neg h1).trans rfl)

theorem outsAt0_B (c : Dev nD) (t : Fin cfg0.N) (h0 : ¬t.val % 7 = 0) (h1 : 1 ≤ t.val % 7) :
    outsAt0 V c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => (outsAt0 V c t.val t.isLt).1
    | ⟨8, _⟩ => (outsAt0 V c t.val t.isLt).2
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = (outsAt0 V c t.val t.isLt).1 := by dsimp only [dat0]
theorem after0_8 (c : Dev nD) (t : Fin cfg0.N) : (dat0 V c).after 8 t = (outsAt0 V c t.val t.isLt).2 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

theorem hcarry0_8 (c : Dev nD) : ∀ (t : Fin cfg0.N) (_ : t.val ≠ 0), cfg0.idle 8 (grid0.coords t) = true → cfg0.fresh 8 t.val = false →
    (dat0 V c).after 8 t = (dat0 V c).after 8 ⟨t.val - 1, by omega⟩ := by
  intro t _ hi _
  have hN : t.val < 56 := lt_of_lt_of_eq t.isLt (show cfg0.N = 56 from N_0)
  rw [after0_8, after0_8]
  by_cases h0 : t.val % 7 = 0
  · by_cases h1 : 1 ≤ t.val % 7
    · exfalso; omega
    · rw [liveAt0_8_A t ((hcond0_0 t).mpr h0) (fun h => h1 ((hcond0_1 t).mp h))] at hi
      exact absurd hi Bool.false_ne_true
  · by_cases h1 : 1 ≤ t.val % 7
    · rw [liveAt0_8_B t (fun h => h0 ((hcond0_0 t).mp h)) ((hcond0_1 t).mpr h1)] at hi
      exact absurd hi Bool.false_ne_true
    · exfalso; omega

theorem before0_8_B (c : Dev nD) (t : Fin cfg0.N) (h0 : ¬t.val % 7 = 0) (h1 : 1 ≤ t.val % 7) (d) :
    (dat0 V c).before 8 t d = (outsAt0 V c (t.val - 1) (Nat.lt_of_le_of_lt (Nat.sub_le _ _) t.isLt)).2 := by
  rw [Dat.before_out_traj _ 8 rfl (fun _ _ => rfl) (hcarry0_8 V c) t.val t rfl d,
    if_neg (by rw [notFresh0_8_B t (fun h => h0 ((hcond0_0 t).mp h)) ((hcond0_1 t).mpr h1)]; exact Bool.false_ne_true)]
  dsimp only [dat0]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d))
    ∗ (∃ d, owns (c : Thread nD τ) (ms0_8 t) fullShare ((dat0 V c).before 8 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 1600000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl]
  have hN : t.val < 56 := lt_of_lt_of_eq t.isLt (show cfg0.N = 56 from N_0)
  by_cases h0 : t.val % 7 = 0
  · by_cases h1 : 1 ≤ t.val % 7
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_A t ((hcond0_0 t).mpr h0) (fun h => h1 ((hcond0_1 t).mp h))], after0_8]
      rw [outsAt0_A V c t h0 h1]
      unfold out0_A_7 out0_A_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t) (iblk0 V c 6 t)).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      iintro ⟨H0, H1, H2, H3, H4, H5, H6, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_A_7 c _ _ _ _ _ _ _ _ _ _ _ _ _ _ _ _ _ _ _ _ _ _ _ _ _ _ _ _)
      unfold owns; iexists _; isplitr
      swap; · iexact H8
      ipureintro; exact View.read_writes_of_cover _ _ _ _ _ (cover0_A_8 c _ _ _ _ _ _ _ _ _ _ _ _ _ _ _ _ _ _ _ _ _ _ _ _ _ _ _ _)
  · by_cases h1 : 1 ≤ t.val % 7
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3 t], after0_3]
      rw [show (dat0 V c).leavesExact 4 t = owns (c : Thread nD τ) (ms0_4 t) fullShare ((dat0 V c).after 4 t) from by
      unfold Dat.leavesExact; rw [liveAt0_4 t], after0_4]
      rw [show (dat0 V c).leavesExact 5 t = owns (c : Thread nD τ) (ms0_5 t) fullShare ((dat0 V c).after 5 t) from by
      unfold Dat.leavesExact; rw [liveAt0_5 t], after0_5]
      rw [show (dat0 V c).leavesExact 6 t = owns (c : Thread nD τ) (ms0_6 t) fullShare ((dat0 V c).after 6 t) from by
      unfold Dat.leavesExact; rw [liveAt0_6 t], after0_6]
      rw [show (dat0 V c).leavesExact 7 t = owns (c : Thread nD τ) (ms0_7 t) fullShare ((dat0 V c).after 7 t) from by
      unfold Dat.leavesExact; rw [liveAt0_7 t], after0_7]
      rw [show (dat0 V c).leavesExact 8 t = owns (c : Thread nD τ) (ms0_8 t) fullShare ((dat0 V c).after 8 t) from by
      unfold Dat.leavesExact; rw [liveAt0_8_B t (fun h => h0 ((hcond0_0 t).mp h)) ((hcond0_1 t).mpr h1)], after0_8]
      rw [outsAt0_B V c t h0 h1]
      simp only [before0_8_B V c t h0 h1]
      unfold out0_B_7 out0_B_8; (try dsimp only)
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) (iblk0 V c 6 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      iintro ⟨H0, H1, H2, H3, H4, H5, H6, ⟨%e7, H7⟩, ⟨%e8, H8⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]
      · unfold owns; iexists _; isplitr
        swap; · iexact H7
        ipureintro; exact View.read_writes_of_cover _ _ _ _ _ (cover0_B_7 c _ _ _ _ _ _ _ _ _ _ _ _ _ _ _ _ _ _ _ _ _ _ _ _ _ _ _ _ _)
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _)
    · exfalso; omega

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Run

end
-- ==== Proof.KernelIdealRun.HeadWriter.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

/-! The bodies of the head call and of the writer call: what each leaves in its output blocks. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

abbrev r1_0 : Rect S6272x8 := Rect.unit (s := S6272x8) ![0, 0] S6272x1.size inb_S6272x8_S6272x1_0_0
abbrev r1_1 : Rect S6272x8 := Rect.unit (s := S6272x8) ![0, 1] S6272x1.size inb_S6272x8_S6272x1_0_1
abbrev r1_2 : Rect S6272x8 := Rect.unit (s := S6272x8) ![0, 2] S6272x1.size inb_S6272x8_S6272x1_0_2
abbrev r1_3 : Rect S6272x8 := Rect.unit (s := S6272x8) ![0, 3] S6272x1.size inb_S6272x8_S6272x1_0_3
abbrev r1_4 : Rect S6272x8 := Rect.unit (s := S6272x8) ![0, 4] S6272x1.size inb_S6272x8_S6272x1_0_4
abbrev r1_5 : Rect S6272x8 := Rect.unit (s := S6272x8) ![0, 5] S6272x1.size inb_S6272x8_S6272x1_0_5
abbrev r1_6 : Rect S6272x8 := Rect.unit (s := S6272x8) ![0, 6] S6272x1.size inb_S6272x8_S6272x1_0_6
abbrev r1_7 : Rect S6272x8 := Rect.unit (s := S6272x8) ![0, 7] S6272x1.size inb_S6272x8_S6272x1_0_7
abbrev r1_8 : Rect S1x214 := Rect.unit (s := S1x214) ![0, 0] S1x214.size inb_S1x214_S1x214_0_0
abbrev r1_9 : Rect S8x1x214 := Rect.unit (s := S8x1x214) ![0, 0, 0] S8x1x214.size inb_S8x1x214_S8x1x214_0_0_0
abbrev r1_10 : Rect S214x2 := Rect.unit (s := S214x2) ![0, 0] S214x2.size inb_S214x2_S214x2_0_0
abbrev r1_11 : Rect S1x2 := Rect.unit (s := S1x2) ![0, 0] S1x2.size inb_S1x2_S1x2_0_0
abbrev r1_12 : Rect S8x2 := Rect.unit (s := S8x2) ![0, 0] S8x2.size inb_S8x2_S8x2_0_0

def out1_4 (x0 : Vec F S6272x8 .i32) (x1 : Vec F S8x1x214 .f32) (x2 : Vec F S214x2 .f32) (x3 : Vec F S1x2 .f32) : Vec F S8x2 .f32 :=
  View.canon [⟨r1_12, k1_pay1 (k1_pay5 (View.ld x1 r1_9)) (Named.named κ "inv_npix" 0x37A72F05#32) (View.ld x2 r1_10) (View.ld x3 r1_11)⟩]

theorem cover1_4 (p0 : Vec F S8x2 .f32) (y : S8x2.Idx) :
    ∃ pc ∈ ([⟨r1_12, p0⟩] : List (View.Piece (Elt F) S8x2 .f32)), y ∈ pc.1.set :=
  View.cover_of_tiled [⟨r1_12, p0⟩] S8x2.size (by rfl) y

def out1_5 (x0 : Vec F S6272x8 .i32) (x1 : Vec F S8x1x214 .f32) (x2 : Vec F S214x2 .f32) (x3 : Vec F S1x2 .f32) : Vec F S1x214 .f32 :=
  View.canon [⟨r1_8, k1_pay4 (iota .tc S1x214 32 [1] iota_S1x214_d1_w32) (k1_pay2 (View.ld x0 r1_0) (View.ld x0 r1_1) (View.ld x0 r1_2) (View.ld x0 r1_3)) (k1_pay3 (View.ld x0 r1_4)) (View.ld x0 r1_5) (View.ld x0 r1_6) (View.ld x0 r1_7)⟩]

theorem cover1_5 (p0 : Vec F S1x214 .f32) (y : S1x214.Idx) :
    ∃ pc ∈ ([⟨r1_8, p0⟩] : List (View.Piece (Elt F) S1x214 .f32)), y ∈ pc.1.set :=
  View.cover_of_tiled [⟨r1_8, p0⟩] S1x214.size (by rfl) y

set_option maxHeartbeats 1000000 in

theorem sound_kernel1 (c : Dev nD) (E : Set ℕ) (arg0 : Memref sig .tc .vmem S6272x8 .i32) (harg0 : arg0.IsWhole) (arg1 : Memref sig .tc .vmem S8x1x214 .f32) (harg1 : arg1.IsWhole) (arg2 : Memref sig .tc .vmem S214x2 .f32) (harg2 : arg2.IsWhole) (arg3 : Memref sig .tc .vmem S1x2 .f32) (harg3 : arg3.IsWhole) (arg4 : Memref sig .tc .vmem S8x2 .f32) (harg4 : arg4.IsWhole) (arg5 : Memref sig .tc .vmem S1x214 .f32) (harg5 : arg5.IsWhole)
    (x0 : Vec F S6272x8 .i32) (x1 : Vec F S8x1x214 .f32) (x2 : Vec F S214x2 .f32) (x3 : Vec F S1x2 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d) ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out1_4 x0 x1 x2 x3) ∗ owns (c : Thread nD τ) arg5 fullShare (out1_5 x0 x1 x2 x3)) -∗ K ⟨⟩))
      ⊢ wp frame (wpE (defs₀ (F := F)) Variants.none c none) E (cc1__head_kernel arg0 harg0 arg1 harg1 arg2 harg2 arg3 harg3 arg4 harg4 arg5 harg5) K := by
  simp only [cc1__head_kernel_eq_skeleton]; unfold cc1__head_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S1x32x224 := Rect.unit (s := S1x32x224) ![0, 0, 0] S1x32x224.size inb_S1x32x224_S1x32x224_0_0_0
abbrev r2_1 : Rect S1x214x1x1 := Rect.unit (s := S1x214x1x1) ![0, 0, 0, 0] S1x214x1x1.size inb_S1x214x1x1_S1x214x1x1_0_0_0_0
abbrev r2_2 : Rect S1x214x32x224 := Rect.unit (s := S1x214x32x224) ![0, 0, 0, 0] S1x214x32x224.size inb_S1x214x32x224_S1x214x32x224_0_0_0_0

def out2_2 (x0 : Vec F S1x32x224 .f32) (x1 : Vec F S1x214x1x1 .f32) : Vec F S1x214x32x224 .f32 :=
  View.canon [⟨r2_2, k2_pay1 (View.ld x0 r2_0) (View.ld x1 r2_1)⟩]

theorem cover2_2 (p0 : Vec F S1x214x32x224 .f32) (y : S1x214x32x224.Idx) :
    ∃ pc ∈ ([⟨r2_2, p0⟩] : List (View.Piece (Elt F) S1x214x32x224 .f32)), y ∈ pc.1.set :=
  View.cover_of_tiled [⟨r2_2, p0⟩] S1x214x32x224.size (by rfl) y

set_option maxHeartbeats 1000000 in

theorem sound_kernel2 (c : Dev nD) (E : Set ℕ) (i : grid2.Coords) (arg2 : Memref sig .tc .vmem S1x32x224 .f32) (harg2 : arg2.IsWhole) (arg3 : Memref sig .tc .vmem S1x214x1x1 .f32) (harg3 : arg3.IsWhole) (arg4 : Memref sig .tc .vmem S1x214x32x224 .f32) (harg4 : arg4.IsWhole)
    (x0 : Vec F S1x32x224 .f32) (x1 : Vec F S1x214x1x1 .f32) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out2_2 x0 x1)) -∗ K ⟨⟩))
      ⊢ wp frame (wpE (defs₀ (F := F)) Variants.none c none) E (cc2__writer_kernel i arg2 harg2 arg3 harg3 arg4 harg4) K := by
  simp only [cc2__writer_kernel_eq_skeleton]; unfold cc2__writer_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ (grid2.coords t) _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Run

end
-- ==== Proof.KernelIdealRun.Whole.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Pipeline.TableIdle
public import Idealize.ShloMosaic.Lib.Ring
public import Idealize.ShloMosaic.Lib.Tactic
public import Idealize.ShloMosaic.Lib.WordCmp
public import proofs.«01_k».proof.Proof.KernelIdealRun.Trunk
public import proofs.«01_k».proof.Proof.KernelIdealRun.HeadWriter

@[expose] public section

set_option maxRecDepth 16384

noncomputable section

/-! The whole program: the contents of every buffer after each of its parts, and the run from launch to end. -/

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2, main_arg3, main_arg4, main_arg5, main_arg6, main_arg7, main_arg8, main_arg9]

theorem hostOps0_fresh : (hostOps0 : List (HloOp τ sig (Elt F))).Forall fun op => op.fresh = ∅ := by
  simp only [List.Forall]; repeat' constructor

abbrev hostOps0_W : List (Ref sig .tc) := [main_call0_c, main_call0_call0_v0, main_call0_v0, main_call0_v1, main_call0_v2, main_call0_v3, main_call0_v4, main_call0_v5, main_call0_v6, main_call0_v7, main_call0_v8, main_call0_v9, main_call0_v10, main_call0_v11, main_call0_v12, main_call0_v13, main_call0_v14]
theorem hostOps0_writes : (hostOps0 : List (HloOp τ sig (Elt F))).Forall fun op => op.writes ⊆ (hostOps0_W.map (Proc.devRef (τ := τ) .tc)).toFinset :=
  StableHlo.forall_writes_sub_of_map rfl

theorem hostOps0_args : ∀ a ∈ argRefs, a ∉ hostOps0_W := ListAll.forall_mem_of_all_decide (by decide +kernel)

theorem hostOps1_fresh : (hostOps1 : List (HloOp τ sig (Elt F))).Forall fun op => op.fresh = ∅ := by
  simp only [List.Forall]; repeat' constructor

abbrev hostOps1_W : List (Ref sig .tc) := [main_call0_v16]
theorem hostOps1_writes : (hostOps1 : List (HloOp τ sig (Elt F))).Forall fun op => op.writes ⊆ (hostOps1_W.map (Proc.devRef (τ := τ) .tc)).toFinset :=
  StableHlo.forall_writes_sub_of_map rfl

theorem hostOps1_args : ∀ a ∈ argRefs, a ∉ hostOps1_W := ListAll.forall_mem_of_all_decide (by decide +kernel)

theorem hostOps2_fresh : (hostOps2 : List (HloOp τ sig (Elt F))).Forall fun op => op.fresh = ∅ := by
  simp only [List.Forall]; repeat' constructor

abbrev hostOps2_W : List (Ref sig .tc) := [main_call0_v18]
theorem hostOps2_writes : (hostOps2 : List (HloOp τ sig (Elt F))).Forall fun op => op.writes ⊆ (hostOps2_W.map (Proc.devRef (τ := τ) .tc)).toFinset :=
  StableHlo.forall_writes_sub_of_map rfl

theorem hostOps2_args : ∀ a ∈ argRefs, a ∉ hostOps2_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl

abbrev W3 : Dev nD → Valuation τ sig (Elt F) := fun c => StableHlo.after hostOps0 (W0 m ρ c)

theorem W3_of (c : Dev nD) (r : Ref sig .tc) (h : r ∉ hostOps0_W) : W3 m ρ c (Proc.devRef .tc r) = W0 m ρ c (Proc.devRef .tc r) :=
  StableHlo.after_of_writes_sub hostOps0 _ hostOps0_writes h
theorem W3_args (c : Dev nD) : ∀ a ∈ argRefs, W3 m ρ c (Proc.devRef .tc a) = m ((c : Thread nD τ).loc a) :=
  fun a ha => (W3_of m ρ c a (hostOps0_args a ha)).trans (W0_args m ρ c a ha)

abbrev V3 : (c : Dev nD) → (b : Ref sig .tc) → Buf (Elt F) ((c : Thread nD τ).loc b) := fun c b => W3 m ρ c b

def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb

theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩

theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)

abbrev V4 : (c : Dev nD) → (b : Ref sig .tc) → Buf (Elt F) ((c : Thread nD τ).loc b) := fun c b => W4 m ρ c b

theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps1 (W4 m ρ c)

theorem W5_of (c : Dev nD) (r : Ref sig .tc) (h : r ∉ hostOps1_W) : W5 m ρ c (Proc.devRef .tc r) = W4 m ρ c (Proc.devRef .tc r) :=
  StableHlo.after_of_writes_sub hostOps1 _ hostOps1_writes h
theorem W5_args (c : Dev nD) : ∀ a ∈ argRefs, W5 m ρ c (Proc.devRef .tc a) = m ((c : Thread nD τ).loc a) :=
  fun a ha => (W5_of m ρ c a (hostOps1_args a ha)).trans (W4_args m ρ c a ha)

abbrev V5 : (c : Dev nD) → (b : Ref sig .tc) → Buf (Elt F) ((c : Thread nD τ).loc b) := fun c b => W5 m ρ c b

def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb

theorem W6_of (c : Dev nD) (r : Ref sig .tc) (h : ∀ w : Fin cfg1.W, Pipeline.arrRef spec1 w = r → (cfg1.win w).isOut = false) :
    W6 m ρ c (Proc.devRef .tc r) = W5 m ρ c (Proc.devRef .tc r) := by
  by_cases hw : ∃ w : Fin cfg1.W, Pipeline.arrRef spec1 w = r
  · obtain ⟨w, rfl⟩ := hw
    exact (W6_arr m ρ c w).trans (((dat1 (V5 m ρ) c).arrAt_in w (h w rfl) _).trans (A_eq1 (V5 m ρ) c w))
  · exact W6_of_ne m ρ c r fun w e => hw ⟨w, e⟩

theorem argsIn1 : ∀ a ∈ argRefs, ∀ w : Fin cfg1.W, Pipeline.arrRef spec1 w = a → (cfg1.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn1 a ha)).trans (W5_args m ρ c a ha)

abbrev V6 : (c : Dev nD) → (b : Ref sig .tc) → Buf (Elt F) ((c : Thread nD τ).loc b) := fun c b => W6 m ρ c b

theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

abbrev W7 : Dev nD → Valuation τ sig (Elt F) := fun c => StableHlo.after hostOps2 (W6 m ρ c)

theorem W7_of (c : Dev nD) (r : Ref sig .tc) (h : r ∉ hostOps2_W) : W7 m ρ c (Proc.devRef .tc r) = W6 m ρ c (Proc.devRef .tc r) :=
  StableHlo.after_of_writes_sub hostOps2 _ hostOps2_writes h
theorem W7_args (c : Dev nD) : ∀ a ∈ argRefs, W7 m ρ c (Proc.devRef .tc a) = m ((c : Thread nD τ).loc a) :=
  fun a ha => (W7_of m ρ c a (hostOps2_args a ha)).trans (W6_args m ρ c a ha)

abbrev V7 : (c : Dev nD) → (b : Ref sig .tc) → Buf (Elt F) ((c : Thread nD τ).loc b) := fun c b => W7 m ρ c b

def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb

theorem W8_of (c : Dev nD) (r : Ref sig .tc) (h : ∀ w : Fin cfg2.W, Pipeline.arrRef spec2 w = r → (cfg2.win w).isOut = false) :
    W8 m ρ c (Proc.devRef .tc r) = W7 m ρ c (Proc.devRef .tc r) := by
  by_cases hw : ∃ w : Fin cfg2.W, Pipeline.arrRef spec2 w = r
  · obtain ⟨w, rfl⟩ := hw
    exact (W8_arr m ρ c w).trans (((dat2 (V7 m ρ) c).arrAt_in w (h w rfl) _).trans (A_eq2 (V7 m ρ) c w))
  · exact W8_of_ne m ρ c r fun w e => hw ⟨w, e⟩

theorem argsIn2 : ∀ a ∈ argRefs, ∀ w : Fin cfg2.W, Pipeline.arrRef spec2 w = a → (cfg2.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn2 a ha)).trans (W7_args m ρ c a ha)

abbrev V8 : (c : Dev nD) → (b : Ref sig .tc) → Buf (Elt F) ((c : Thread nD τ).loc b) := fun c b => W8 m ρ c b

theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)

abbrev adm : (p : Fin 3) → (pcfgs (F := F) p).Adm := fun p => (cfgs p).toPCfg_adm

def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W8 m ρ c) ∗ ∃ r, prngReg c r)
set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) (A_eq1 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO
set_option backward.isDefEq.respectTransparency.types false in

def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) (A_eq2 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ) ]

theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- The run: it ends, every buffer of the program then holds what the fold over its parts says, and every semaphore counter is zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W8 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

/-- The frame: every argument as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(h.1 c _ (mem_uc main_arg0 (by decide))).trans (W8_main_arg0 m ρ c),
       (h.1 c _ (mem_uc main_arg1 (by decide))).trans (W8_main_arg1 m ρ c),
       (h.1 c _ (mem_uc main_arg2 (by decide))).trans (W8_main_arg2 m ρ c),
       (h.1 c _ (mem_uc main_arg3 (by decide))).trans (W8_main_arg3 m ρ c),
       (h.1 c _ (mem_uc main_arg4 (by decide))).trans (W8_main_arg4 m ρ c),
       (h.1 c _ (mem_uc main_arg5 (by decide))).trans (W8_main_arg5 m ρ c),
       (h.1 c _ (mem_uc main_arg6 (by decide))).trans (W8_main_arg6 m ρ c),
       (h.1 c _ (mem_uc main_arg7 (by decide))).trans (W8_main_arg7 m ρ c),
       (h.1 c _ (mem_uc main_arg8 (by decide))).trans (W8_main_arg8 m ρ c),
       (h.1 c _ (mem_uc main_arg9 (by decide))).trans (W8_main_arg9 m ρ c)⟩, h.2⟩) (run m ρ)

/-- Every argument as launched. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h.1) (frame m ρ)

end Cert.KernelIdeal.Run

end
-- ==== Proof.Value.Spec.lean ====
module

public import Idealize.ShloMosaic.Lib.Pointwise

@[expose] public section

noncomputable section

/-! The three layers of the trunk as functions of natural coordinates. -/

namespace Cert.Spec

/-- Nine terms added from the left, in the order of the taps of a 3x3 window. -/
def tap9 (f : Fin 3 → Fin 3 → EReal) : EReal :=
  f 0 0 + f 0 1 + f 0 2 + f 1 0 + f 1 1 + f 1 2 + f 2 0 + f 2 1 + f 2 2

theorem tap9_congr {f g : Fin 3 → Fin 3 → EReal} (h : ∀ ky kx, f ky kx = g ky kx) : tap9 f = tap9 g :=
  congrArg tap9 (funext fun ky => funext fun kx => h ky kx)

/-- A 224x224 image with one ring of zeros around it. -/
def ring (H : ℕ → ℕ → EReal) (r c : ℕ) : EReal :=
  if 1 ≤ r ∧ r ≤ 224 ∧ 1 ≤ c ∧ c ≤ 224 then H (r - 1) (c - 1) else 0

theorem ring_congr {H G : ℕ → ℕ → EReal} (h : ∀ r c, r < 224 → c < 224 → H r c = G r c) (r c : ℕ) :
    ring H r c = ring G r c := by
  unfold ring
  split
  · exact h _ _ (by omega) (by omega)
  · rfl

/-- One output channel of a 3x3 convolution with zero border, bias and rectifier, at pixel `(i, j)`. -/
def layer {n : ℕ} (H : Fin n → ℕ → ℕ → EReal) (w : Fin n → Fin 3 → Fin 3 → EReal) (b : EReal) (i j : ℕ) : EReal :=
  max (tap9 (fun ky kx => ∑ ci : Fin n, ring (H ci) (i + ky) (j + kx) * w ci ky kx) + b) 0

theorem layer_congr {n : ℕ} {H G : Fin n → ℕ → ℕ → EReal} (h : ∀ ci r c, r < 224 → c < 224 → H ci r c = G ci r c)
    (w : Fin n → Fin 3 → Fin 3 → EReal) (b : EReal) (i j : ℕ) : layer H w b i j = layer G w b i j := by
  unfold layer
  rw [tap9_congr fun ky kx => Finset.sum_congr rfl fun ci _ => by rw [ring_congr (h ci)]]

end Cert.Spec
-- ==== Proof.Value.Words.lean ====
module

public import proofs.«01_k».proof.Proof.Gen.KernelIdeal.Skeleton
public import Idealize.ShloMosaic.Lib.Pipeline.ValueKit
public import Idealize.ShloMosaic.Lib.WordCmp

@[expose] public section

set_option maxRecDepth 16384

noncomputable section

open Idealize.ShloMosaic Idealize.ShloMosaic.WordCmp Idealize.ShloMosaic.TcCoe Idealize.SL.Sem
open Cert.KernelIdeal Cert.KernelIdeal.Gen

namespace Cert.KernelIdeal.Value

/-- The divisor of the remainder as the kernel spells it. -/
def width : BitVec 32 := Scalar.select (Scalar.cmpi CmpIPredicate.eq 226#32 0#32) 1#32 226#32

/-- The column of a flat row number as the kernel computes it. -/
def colWord (x : BitVec 32) : BitVec 32 :=
  Scalar.select
    (IntOp.andi (IntOp.xori (IntOp.cmpi CmpIPredicate.slt (IntOp.remsi ArithUnit.vector x width) 0#32)
        (Scalar.cmpi CmpIPredicate.slt width 0#32))
      (IntOp.cmpi CmpIPredicate.ne (IntOp.remsi ArithUnit.vector x width) 0#32))
    (IntOp.addi (IntOp.remsi ArithUnit.vector x width) width) (IntOp.remsi ArithUnit.vector x width)

/-- The row of a flat row number as the kernel computes it. -/
def rowWord (x : BitVec 32) : BitVec 32 :=
  Scalar.select
    (IntOp.andi
      (IntOp.cmpi CmpIPredicate.ne
        (IntOp.subi (BitVec.setWidth 32 (IntOp.cmpi CmpIPredicate.sgt x 0#32))
          (BitVec.setWidth 32 (IntOp.cmpi CmpIPredicate.slt x 0#32)))
        (Scalar.subi (Scalar.extui (Scalar.cmpi CmpIPredicate.sgt 226#32 0#32))
          (Scalar.extui (Scalar.cmpi CmpIPredicate.slt 226#32 0#32))))
      (IntOp.cmpi CmpIPredicate.ne (IntOp.remsi ArithUnit.vector x 226#32) 0#32))
    (IntOp.subi (IntOp.divsi ArithUnit.vector x 226#32) 1#32) (IntOp.divsi ArithUnit.vector x 226#32)

/-- Column and row of every flat row number the kernel meets. -/
theorem words : ∀ r : Fin 36, ∀ c : Fin 226, colWord (BitVec.ofNat 32 (r.val * 226 + c.val)) = BitVec.ofNat 32 c.val
    ∧ rowWord (BitVec.ofNat 32 (r.val * 226 + c.val)) = BitVec.ofNat 32 r.val := by
  decide +kernel

/-- The column test. -/
def colBit (x : BitVec 32) : BitVec 1 :=
  IntOp.andi (IntOp.cmpi CmpIPredicate.sge x 1#32) (IntOp.cmpi CmpIPredicate.sle x 224#32)

theorem colBit_eq : ∀ c : Fin 226, colBit (BitVec.ofNat 32 c.val) = BitVec.ofBool (decide (1 ≤ c.val ∧ c.val ≤ 224)) := by
  decide +kernel

theorem rowBit_eq : ∀ s : Fin 256, IntOp.cmpi CmpIPredicate.sge (BitVec.ofNat 32 s.val) 3#32 = BitVec.ofBool (decide (3 ≤ s.val))
    ∧ IntOp.cmpi CmpIPredicate.sle (BitVec.ofNat 32 s.val) 226#32 = BitVec.ofBool (decide (s.val ≤ 226)) := by
  decide +kernel

/-- A test bit widened and converted is one or zero. -/
theorem bitValue (p : Prop) [Decidable p] :
    (FloatOps.sitofp (F := Ideal) FTy.f32 (BitVec.setWidth 32 (BitVec.ofBool (decide p))) : EReal) = if p then 1 else 0 := by
  by_cases h : p <;> simp [h, FloatOps.sitofp]

theorem zeroValue : ((((0#32 : BitVec 32).toInt : ℝ)) : EReal) = 0 := by simp

end Cert.KernelIdeal.Value
-- ==== Proof.Value.Pay1.lean ====
module

public import proofs.«01_k».proof.Proof.Gen.KernelIdeal.Skeleton
public import proofs.«01_k».proof.Proof.Value.Spec
public import proofs.«01_k».proof.Proof.Value.Words
public import Idealize.ShloMosaic.Lib.Pipeline.ValueKit

@[expose] public section

set_option maxRecDepth 16384

noncomputable section

open Idealize.ShloMosaic Idealize.ShloMosaic.WordCmp Idealize.ShloMosaic.TcCoe Idealize.SL.Sem
open Cert.KernelIdeal Cert.KernelIdeal.Gen Cert.Spec

namespace Cert.KernelIdeal.Value

/-- Layer one before its mask: nine shifted products of the flat padded rows. -/
theorem flat1 (v2 : Vec Ideal S1x3x38x226 .f32) (v6 : Vec Ideal S9x3x64 .bf16) (v8 : Vec Ideal S1x64 .f32)
    (l : Fin 8136) (o : Fin 64) :
    k0_pay10 (k0_pay5 v6) (k0_pay6 v8) (k0_pay7 v2) (k0_pay8 v2 v6) (k0_pay9 v2) (ix2 l o)
      = max (tap9 (fun ky kx => ∑ ci : Fin 3, (show EReal from k0_pay7 (F := Ideal) v2 (ix2 ⟨l + 226 * ky + kx, by omega⟩ ci))
          * v6 (ix3 ⟨3 * ky + kx, by omega⟩ ci o)) + v8 (ix2 0 o)) 0 := by
  pointwise [k0_pay10, k0_pay5, k0_pay6, k0_pay8, k0_pay9]
  refine congrArg₂ max (congrArg₂ (· + ·) ?_ rfl) rfl
  unfold tap9
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals
    refine Finset.sum_congr rfl fun ci _ => ?_
    refine congrArg₂ (· * ·) ?_ ?_
    · refine congrArg _ ((ix2_inj ..).2 ⟨Fin.ext ?_, rfl⟩)
      simp only [Fin.coe_ofNat_eq_mod, Nat.reduceMod, Fin.val_mk]; omega
    · rfl

/-- Layer two before its mask. -/
theorem flat2 (v123 : Vec Ideal S9x64x128 .bf16) (v125 : Vec Ideal S1x128 .f32) (v132 : FVec Ideal S8138x64 .f32)
    (l : Fin 7684) (o : Fin 128) :
    k0_pay16 (k0_pay13 v123) (k0_pay14 v125) v132 (ix2 l o)
      = max (tap9 (fun ky kx => ∑ ci : Fin 64, v132 (ix2 ⟨l + 226 * ky + kx, by omega⟩ ci)
          * v123 (ix3 ⟨3 * ky + kx, by omega⟩ ci o)) + v125 (ix2 0 o)) 0 := by
  pointwise [k0_pay16, k0_pay13, k0_pay14]
  refine congrArg₂ max (congrArg₂ (· + ·) ?_ rfl) rfl
  unfold tap9
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals
    refine Finset.sum_congr rfl fun ci _ => ?_
    refine congrArg₂ (· * ·) ?_ ?_
    · refine congrArg _ ((ix2_inj ..).2 ⟨Fin.ext ?_, rfl⟩)
      simp only [Fin.coe_ofNat_eq_mod, Nat.reduceMod, Fin.val_mk]; omega
    · rfl

/-- The padded, flattened input rows: a zero row in front and behind. -/
theorem rows1 (v2 : Vec Ideal S1x3x38x226 .f32) (n : ℕ) (hn : n < 8590) (ci : Fin 3) (r : Fin 38) (c : Fin 226)
    (h : n = 1 + r * 226 + c) :
    k0_pay7 (F := Ideal) v2 (ix2 ⟨n, hn⟩ ci) = v2 (ix4 0 ci r c) := by
  pointwise [k0_pay7]
  rw [dif_pos (by omega), dif_neg (by omega)]
  refine congrArg _ ((ix4_inj ..).2 ⟨rfl, rfl, Fin.ext ?_, Fin.ext ?_⟩)
  · show (n - 1) / 226 = r.val
    omega
  · show (n - 1) % 226 = c.val
    omega

/-- Layer three before its mask. -/
theorem flat3 (v127 : BitVec 32) (v181 : FVec Ideal S7684x128 .f32) (v203 : IVec S7684x1 1) (v227 : IVec S7684x1 32)
    (v240 : Vec Ideal S9x128x214 .bf16) (v242 : Vec Ideal S1x214 .f32) (l : Fin 7232) (o : Fin 214) :
    k0_pay24 (k0_pay19 v240) (k0_pay20 v242) (k0_pay21 v127 v181 v203 v227) (k0_pay22 v127 v181 v203 v227 v240)
        (k0_pay23 v127 v181 v203 v227) (ix2 l o)
      = max (tap9 (fun ky kx => ∑ ci : Fin 128, (show EReal from k0_pay21 v127 v181 v203 v227 (ix2 ⟨l + 226 * ky + kx, by omega⟩ ci))
          * v240 (ix3 ⟨3 * ky + kx, by omega⟩ ci o)) + v242 (ix2 0 o)) 0 := by
  pointwise [k0_pay24, k0_pay19, k0_pay20, k0_pay22, k0_pay23]
  refine congrArg₂ max (congrArg₂ (· + ·) ?_ rfl) rfl
  unfold tap9
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals
    refine Finset.sum_congr rfl fun ci _ => ?_
    refine congrArg₂ (· * ·) ?_ ?_
    · refine congrArg _ ((ix2_inj ..).2 ⟨Fin.ext ?_, rfl⟩)
      simp only [Fin.coe_ofNat_eq_mod, Nat.reduceMod, Fin.val_mk]; omega
    · rfl

/-- Layer one masked, with a zero row in front and behind. -/
theorem mask1 (k : ℕ) (hk : k ≤ 194) (v64 : FVec Ideal S8136x64 .f32) (n : ℕ) (hn : n < 8138) (o : Fin 64) (r : Fin 36) (c : Fin 226)
    (h : n = 1 + r * 226 + c) :
    k0_pay15 (BitVec.ofNat 32 k) v64 (iota .tc S8136x1 32 [0] iota_S8136x1_d0_w32) k0_pay11 226#32 k0_pay12 (ix2 ⟨n, hn⟩ o)
      = if (1 ≤ c.val ∧ c.val ≤ 224) ∧ 3 ≤ r.val + k ∧ r.val + k ≤ 226 then v64 (ix2 ⟨r * 226 + c, by omega⟩ o) else 0 := by
  pointwise [k0_pay15, k0_pay11, k0_pay12]
  rw [dif_pos (by omega), dif_neg (by omega)]
  have e : n - 1 = r.val * 226 + c.val := by omega
  simp only [e]
  have hw := words r c
  unfold colWord rowWord width at hw
  rw [hw.1, hw.2, addi_ofNat, (rowBit_eq ⟨r.val + k, by omega⟩).1, (rowBit_eq ⟨r.val + k, by omega⟩).2]
  have hc := colBit_eq c
  unfold colBit at hc
  rw [hc]
  by_cases h1 : 1 ≤ c.val ∧ c.val ≤ 224 <;> by_cases h2 : 3 ≤ r.val + k <;> by_cases h3 : r.val + k ≤ 226 <;>
    simp [h1, h2, h3, IntOp.andi, FloatOps.sitofp]

/-- Layer two masked, with a zero row in front and behind. -/
theorem mask2 (k : ℕ) (hk : k ≤ 194) (v181 : FVec Ideal S7684x128 .f32) (n : ℕ) (hn : n < 7686) (o : Fin 128) (r : Fin 34) (c : Fin 226)
    (h : n = 1 + r * 226 + c) :
    k0_pay21 (BitVec.ofNat 32 k) v181 (k0_pay17 (iota .tc S7684x1 32 [0] iota_S7684x1_d0_w32))
        (k0_pay18 (iota .tc S7684x1 32 [0] iota_S7684x1_d0_w32)) (ix2 ⟨n, hn⟩ o)
      = if (1 ≤ c.val ∧ c.val ≤ 224) ∧ 3 ≤ r.val + k ∧ r.val + k ≤ 226 then v181 (ix2 ⟨r * 226 + c, by omega⟩ o) else 0 := by
  pointwise [k0_pay21, k0_pay17, k0_pay18]
  rw [dif_pos (by omega), dif_neg (by omega)]
  have e : n - 1 = r.val * 226 + c.val := by omega
  simp only [e]
  have hw := words ⟨r.val, by omega⟩ c
  dsimp only at hw
  unfold colWord rowWord width at hw
  rw [hw.1, hw.2, addi_ofNat, (rowBit_eq ⟨r.val + k, by omega⟩).1, (rowBit_eq ⟨r.val + k, by omega⟩).2]
  have hc := colBit_eq c
  unfold colBit at hc
  rw [hc]
  by_cases h1 : 1 ≤ c.val ∧ c.val ≤ 224 <;> by_cases h2 : 3 ≤ r.val + k <;> by_cases h3 : r.val + k ≤ 226 <;>
    simp [h1, h2, h3, IntOp.andi, FloatOps.sitofp]

/-- The column mask of layer three. -/
theorem mask3 (r : Fin 32) (c : Fin 226) :
    k0_pay25 (F := Ideal) (ix2 ⟨r * 226 + c, by omega⟩ 0) = if 1 ≤ c.val ∧ c.val ≤ 224 then 1 else 0 := by
  pointwise [k0_pay25]
  have hw := words ⟨r.val, by omega⟩ c
  dsimp only at hw
  unfold colWord width at hw
  rw [hw.1]
  have hc := colBit_eq c
  unfold colBit at hc
  rw [hc]
  exact bitValue _

/-- The channel sums the body stores. -/
theorem chan_sum (v297 : FVec Ideal S7232x214 .f32) (v321 : FVec Ideal S7232x1 .f32) (r : Fin 32) (j : Fin 224) :
    k0_pay2 v297 v321 (ix3 0 r j) = ∑ o : Fin 214, v297 (ix2 ⟨r * 226 + (1 + j), by omega⟩ o) * v321 (ix2 ⟨r * 226 + (1 + j), by omega⟩ 0) := by
  pointwise [k0_pay2, k0_pay1]

/-- The pixel sums of one tile. -/
theorem tile_sum (v297 : FVec Ideal S7232x214 .f32) (v321 : FVec Ideal S7232x1 .f32) (o : Fin 214) :
    k0_pay3 v297 v321 (ix3 0 0 o) = ∑ l : Fin 7232, v297 (ix2 l o) * v321 (ix2 l 0) := by
  pointwise [k0_pay3, k0_pay1]

theorem add_tile (v297 : FVec Ideal S7232x214 .f32) (v321 : FVec Ideal S7232x1 .f32) (v337 : Vec Ideal S1x1x214 .f32) (o : Fin 214) :
    k0_pay4 v297 v321 v337 (ix3 0 0 o) = v337 (ix3 0 0 o) + ∑ l : Fin 7232, v297 (ix2 l o) * v321 (ix2 l 0) := by
  pointwise [k0_pay4, k0_pay3, k0_pay1]

end Cert.KernelIdeal.Value
-- ==== Proof.Value.Tile.lean ====
module

public import proofs.«01_k».proof.Proof.Value.Pay1

@[expose] public section

set_option maxRecDepth 16384

noncomputable section

open Idealize.ShloMosaic Idealize.ShloMosaic.TcCoe Idealize.SL.Sem
open Cert.KernelIdeal Cert.KernelIdeal.Gen Cert.Spec

namespace Cert.Spec

/-- A layer from nine families of reads that agree with the ringed image. -/
theorem layer_of_reads {n : ℕ} (G : Fin 3 → Fin 3 → Fin n → EReal) (H : Fin n → ℕ → ℕ → EReal)
    (w : Fin n → Fin 3 → Fin 3 → EReal) (b : EReal) (i j : ℕ)
    (h : ∀ ky kx ci, G ky kx ci = ring (H ci) (i + ky) (j + kx)) :
    max (tap9 (fun ky kx => ∑ ci : Fin n, G ky kx ci * w ci ky kx) + b) 0 = layer H w b i j := by
  unfold layer
  rw [tap9_congr fun ky kx => Finset.sum_congr rfl fun ci _ => by rw [h]]

end Cert.Spec

namespace Cert.KernelIdeal.Value

section
variable (v2 : Vec Ideal S1x3x38x226 .f32) (w1 : Vec Ideal S9x3x64 .bf16) (b1 : Vec Ideal S1x64 .f32)
  (w2 : Vec Ideal S9x64x128 .bf16) (b2 : Vec Ideal S1x128 .f32) (w3 : Vec Ideal S9x128x214 .bf16) (b3 : Vec Ideal S1x214 .f32)

/-- A weight block as a function of channel in and tap. -/
def wt1 (o : Fin 64) (ci : Fin 3) (ky kx : Fin 3) : EReal := w1 (ix3 ⟨3 * ky + kx, by omega⟩ ci o)
def wt2 (o : Fin 128) (ci : Fin 64) (ky kx : Fin 3) : EReal := w2 (ix3 ⟨3 * ky + kx, by omega⟩ ci o)
def wt3 (o : Fin 214) (ci : Fin 128) (ky kx : Fin 3) : EReal := w3 (ix3 ⟨3 * ky + kx, by omega⟩ ci o)

/-- The three layers of one tile as the body computes them, the row words of the two masks given. -/
def tile1 : FVec Ideal S8136x64 .f32 :=
  k0_pay10 (k0_pay5 w1) (k0_pay6 b1) (k0_pay7 v2) (k0_pay8 v2 w1) (k0_pay9 v2)
def tile2 (p : BitVec 32) : FVec Ideal S7684x128 .f32 :=
  k0_pay16 (k0_pay13 w2) (k0_pay14 b2)
    (k0_pay15 p (tile1 v2 w1 b1) (iota .tc S8136x1 32 [0] iota_S8136x1_d0_w32) k0_pay11 226#32 k0_pay12)
def tile3 (p q : BitVec 32) : FVec Ideal S7232x214 .f32 :=
  k0_pay24 (k0_pay19 w3) (k0_pay20 b3)
    (k0_pay21 q (tile2 v2 w1 b1 w2 b2 p) (k0_pay17 (iota .tc S7684x1 32 [0] iota_S7684x1_d0_w32))
      (k0_pay18 (iota .tc S7684x1 32 [0] iota_S7684x1_d0_w32)))
    (k0_pay22 q (tile2 v2 w1 b1 w2 b2 p) (k0_pay17 (iota .tc S7684x1 32 [0] iota_S7684x1_d0_w32))
      (k0_pay18 (iota .tc S7684x1 32 [0] iota_S7684x1_d0_w32)) w3)
    (k0_pay23 q (tile2 v2 w1 b1 w2 b2 p) (k0_pay17 (iota .tc S7684x1 32 [0] iota_S7684x1_d0_w32))
      (k0_pay18 (iota .tc S7684x1 32 [0] iota_S7684x1_d0_w32)))

variable (X : Fin 3 → ℕ → ℕ → EReal) (a : ℕ)
  (hX : ∀ ci (r : Fin 38) (c : Fin 226), v2 (ix4 0 ci r c)
    = if 3 ≤ a + r ∧ a + r ≤ 226 ∧ 1 ≤ c.val ∧ c.val ≤ 224 then X ci (a + r - 3) (c - 1) else 0)

/-- The image after layer one, two. -/
def img1 (o : Fin 64) : ℕ → ℕ → EReal := layer X (wt1 w1 o) (b1 (ix2 0 o))
def img2 (o : Fin 128) : ℕ → ℕ → EReal := layer (img1 w1 b1 X) (wt2 w2 o) (b2 (ix2 0 o))

include hX in
theorem tile1_at (r : Fin 36) (c : Fin 226) (h2 : 2 ≤ a + r) (hc : 1 ≤ c.val ∧ c.val ≤ 224) (o : Fin 64) :
    tile1 v2 w1 b1 (ix2 ⟨r * 226 + c, by omega⟩ o) = img1 w1 b1 X o (a + r - 2) (c - 1) := by
  refine (flat1 v2 w1 b1 _ o).trans ?_
  refine layer_of_reads (fun ky kx ci => k0_pay7 (F := Ideal) v2 (ix2 ⟨(r * 226 + c) + 226 * ky + kx, by omega⟩ ci)) X
    (wt1 w1 o) _ _ _ fun ky kx ci => ?_
  rw [rows1 v2 _ _ ci ⟨r + ky, by omega⟩ ⟨c + kx - 1, by omega⟩ (by dsimp only; omega), hX]
  unfold ring
  dsimp only
  by_cases h : 3 ≤ a + (r.val + ky.val) ∧ a + (r.val + ky.val) ≤ 226 ∧ 1 ≤ c.val + kx.val - 1 ∧ c.val + kx.val - 1 ≤ 224
  · rw [if_pos h, if_pos (by omega)]
    exact congrArg₂ (X ci) (by omega) (by omega)
  · rw [if_neg h, if_neg (by omega)]

include hX in
theorem tile2_at (ha : a ≤ 192) (r : Fin 34) (c : Fin 226) (h2 : 1 ≤ a + r) (hc : 1 ≤ c.val ∧ c.val ≤ 224) (o : Fin 128) :
    tile2 v2 w1 b1 w2 b2 (BitVec.ofNat 32 (a + 1)) (ix2 ⟨r * 226 + c, by omega⟩ o)
      = img2 w1 b1 w2 b2 X o (a + r - 1) (c - 1) := by
  refine (flat2 w2 b2 _ _ o).trans ?_
  refine layer_of_reads (fun ky kx ci => k0_pay15 (BitVec.ofNat 32 (a + 1)) (tile1 v2 w1 b1) (iota .tc S8136x1 32 [0] iota_S8136x1_d0_w32)
      k0_pay11 226#32 k0_pay12 (ix2 ⟨(r * 226 + c) + 226 * ky + kx, by omega⟩ ci)) (img1 w1 b1 X)
    (wt2 w2 o) _ _ _ fun ky kx ci => ?_
  rw [mask1 (a + 1) (by omega) _ _ _ ci ⟨r + ky, by omega⟩ ⟨c + kx - 1, by omega⟩ (by dsimp only; omega)]
  unfold ring
  dsimp only
  by_cases h : (1 ≤ c.val + kx.val - 1 ∧ c.val + kx.val - 1 ≤ 224) ∧ 3 ≤ r.val + ky.val + (a + 1) ∧ r.val + ky.val + (a + 1) ≤ 226
  · rw [if_pos h, if_pos (by omega)]
    refine (tile1_at v2 w1 b1 X a hX ⟨r + ky, by omega⟩ ⟨c + kx - 1, by omega⟩ (by dsimp only; omega) h.1 ci).trans ?_
    exact congrArg₂ (img1 w1 b1 X ci) (by dsimp only; omega) (by dsimp only; omega)
  · rw [if_neg h, if_neg (by omega)]

include hX in
/-- THE TILE: inside the image columns the body's third layer is layer three of the whole image. -/
theorem tile3_at (ha : a ≤ 192) (r : Fin 32) (c : Fin 226) (hc : 1 ≤ c.val ∧ c.val ≤ 224) (o : Fin 214) :
    tile3 v2 w1 b1 w2 b2 w3 b3 (BitVec.ofNat 32 (a + 1)) (BitVec.ofNat 32 (a + 2)) (ix2 ⟨r * 226 + c, by omega⟩ o)
      = layer (img2 w1 b1 w2 b2 X) (wt3 w3 o) (b3 (ix2 0 o)) (a + r) (c - 1) := by
  refine (flat3 _ _ _ _ w3 b3 _ o).trans ?_
  refine layer_of_reads (fun ky kx ci => k0_pay21 (BitVec.ofNat 32 (a + 2)) (tile2 v2 w1 b1 w2 b2 (BitVec.ofNat 32 (a + 1)))
      (k0_pay17 (iota .tc S7684x1 32 [0] iota_S7684x1_d0_w32)) (k0_pay18 (iota .tc S7684x1 32 [0] iota_S7684x1_d0_w32))
      (ix2 ⟨(r * 226 + c) + 226 * ky + kx, by omega⟩ ci)) (img2 w1 b1 w2 b2 X)
    (wt3 w3 o) _ _ _ fun ky kx ci => ?_
  rw [mask2 (a + 2) (by omega) _ _ _ ci ⟨r + ky, by omega⟩ ⟨c + kx - 1, by omega⟩ (by dsimp only; omega)]
  unfold ring
  dsimp only
  by_cases h : (1 ≤ c.val + kx.val - 1 ∧ c.val + kx.val - 1 ≤ 224) ∧ 3 ≤ r.val + ky.val + (a + 2) ∧ r.val + ky.val + (a + 2) ≤ 226
  · rw [if_pos h, if_pos (by omega)]
    refine (tile2_at v2 w1 b1 w2 b2 X a hX ha ⟨r + ky, by omega⟩ ⟨c + kx - 1, by omega⟩ (by dsimp only; omega) h.1 ci).trans ?_
    exact congrArg₂ (img2 w1 b1 w2 b2 X ci) (by dsimp only; omega) (by dsimp only; omega)
  · rw [if_neg h, if_neg (by omega)]

end

end Cert.KernelIdeal.Value
-- ==== Proof.Value.RefTrunk.lean ====
module

public import proofs.«01_k».proof.Proof.Gen.ReferenceIdeal.Read
public import proofs.«01_k».proof.Proof.Value.Spec
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Cert.ReferenceIdeal Cert.ReferenceIdeal.Gen Cert.ReferenceIdeal.Read Cert.Spec

namespace Cert.Spec

/-- A 224x224 array read at natural coordinates. -/
def img (f : Fin 224 → Fin 224 → EReal) (r c : ℕ) : EReal := if h : r < 224 ∧ c < 224 then f ⟨r, h.1⟩ ⟨c, h.2⟩ else 0

theorem img_at (f : Fin 224 → Fin 224 → EReal) (r c : Fin 224) : img f r c = f r c := dif_pos ⟨r.isLt, c.isLt⟩

theorem ring_img (f : Fin 224 → Fin 224 → EReal) (r c : ℕ) (h : 1 ≤ r ∧ r ≤ 224 ∧ 1 ≤ c ∧ c ≤ 224) :
    ring (img f) r c = f ⟨r - 1, by omega⟩ ⟨c - 1, by omega⟩ := by
  unfold ring img
  rw [if_pos h, dif_pos ⟨by omega, by omega⟩]

end Cert.Spec

namespace Cert.ReferenceIdeal.Value

theorem zeroWord : (FloatOps.sitofp (F := Ideal) FTy.f32 (0#32 : BitVec 32) : EReal) = 0 := by simp [FloatOps.sitofp]

/-- The zero border of the input of layer 1. -/
theorem border1 (x0 : FVec Ideal S8x3x224x224 .f32) (b : Fin 8) (ci : Fin 3) (r c : Fin 226) :
    val_main_v0 (F := Ideal) x0 (ix4 b ci r c) = ring (img fun i j => x0 (ix4 b ci i j)) r c := by
  pointwise [val_main_v0, val_main_c, val_main_call0_v0]
  by_cases h : 1 ≤ r.val ∧ r.val ≤ 224 ∧ 1 ≤ c.val ∧ c.val ≤ 224
  · rw [ring_img _ _ _ h]
    exact dif_pos (by omega)
  · unfold ring
    rw [if_neg h, dif_neg (by omega)]
    exact zeroWord

/-- Layer 1 of the reference. -/
theorem layer1 (x0 : FVec Ideal S8x3x224x224 .f32) (x2 : FVec Ideal S64x3x3x3 .f32) (x3 : FVec Ideal S64 .f32) (b : Fin 8) (o : Fin 64) (i j : Fin 224) :
    val_main_v57 (F := Ideal) x0 x2 x3 (ix4 b o i j)
      = layer (fun ci => img fun r c => x0 (ix4 b ci r c)) (fun ci ky kx => x2 (ix4 o ci ky kx)) (x3 (ix1 o)) i j := by
  have e : ∀ ky kx : Fin 3, ∀ ci : Fin 3, ring (img fun r c => x0 (ix4 b ci r c)) (i + ky) (j + kx)
      = val_main_v0 (F := Ideal) x0 (ix4 b ci ⟨i + ky, by omega⟩ ⟨j + kx, by omega⟩) := fun ky kx ci => (border1 x0 b ci ⟨i + ky, by omega⟩ ⟨j + kx, by omega⟩).symm
  unfold layer
  simp only [e]
  pointwise [val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_call1_cst, val_main_call1_v0, val_main_v57]
  refine congrArg₂ max (congrArg₂ (· + ·) ?_ rfl) rfl
  unfold tap9
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals
    refine Finset.sum_congr rfl fun ci _ => (mul_comm _ _).trans ?_
    refine congrArg₂ (· * ·) (congrArg _ ((ix4_inj ..).2 ⟨rfl, rfl, Fin.ext ?_, Fin.ext ?_⟩)) rfl <;>
      simp only [Fin.coe_ofNat_eq_mod, Nat.reduceMod, Fin.val_mk] <;> omega

/-- The zero border of the input of layer 2. -/
theorem border2 (x0 : FVec Ideal S8x3x224x224 .f32) (x2 : FVec Ideal S64x3x3x3 .f32) (x3 : FVec Ideal S64 .f32) (b : Fin 8) (ci : Fin 64) (r c : Fin 226) :
    val_main_v58 (F := Ideal) x0 x2 x3 (ix4 b ci r c) = ring (img fun i j => val_main_v57 (F := Ideal) x0 x2 x3 (ix4 b ci i j)) r c := by
  unfold val_main_v58
  generalize val_main_v57 (F := Ideal) x0 x2 x3 = y
  pointwise [val_main_c_0, val_main_call2_v0]
  by_cases h : 1 ≤ r.val ∧ r.val ≤ 224 ∧ 1 ≤ c.val ∧ c.val ≤ 224
  · rw [ring_img _ _ _ h]
    exact dif_pos (by omega)
  · unfold ring
    rw [if_neg h, dif_neg (by omega)]
    exact zeroWord

/-- Layer 2 of the reference. -/
theorem layer2 (x0 : FVec Ideal S8x3x224x224 .f32) (x2 : FVec Ideal S64x3x3x3 .f32) (x3 : FVec Ideal S64 .f32) (x4 : FVec Ideal S128x64x3x3 .f32) (x5 : FVec Ideal S128 .f32) (b : Fin 8) (o : Fin 128) (i j : Fin 224) :
    val_main_v115 (F := Ideal) x0 x2 x3 x4 x5 (ix4 b o i j)
      = layer (fun ci => img fun r c => val_main_v57 (F := Ideal) x0 x2 x3 (ix4 b ci r c)) (fun ci ky kx => x4 (ix4 o ci ky kx)) (x5 (ix1 o)) i j := by
  have e : ∀ ky kx : Fin 3, ∀ ci : Fin 64, ring (img fun r c => val_main_v57 (F := Ideal) x0 x2 x3 (ix4 b ci r c)) (i + ky) (j + kx)
      = val_main_v58 (F := Ideal) x0 x2 x3 (ix4 b ci ⟨i + ky, by omega⟩ ⟨j + kx, by omega⟩) := fun ky kx ci => (border2 x0 x2 x3 b ci ⟨i + ky, by omega⟩ ⟨j + kx, by omega⟩).symm
  unfold layer
  simp only [e]
  pointwise [val_main_v59, val_main_v60, val_main_v61, val_main_v62, val_main_v63, val_main_v64, val_main_v65, val_main_v66, val_main_v67, val_main_v68, val_main_v69, val_main_v70, val_main_v71, val_main_v72, val_main_v73, val_main_v74, val_main_v75, val_main_v76, val_main_v77, val_main_v78, val_main_v79, val_main_v80, val_main_v81, val_main_v82, val_main_v83, val_main_v84, val_main_v85, val_main_v86, val_main_v87, val_main_v88, val_main_v89, val_main_v90, val_main_v91, val_main_v92, val_main_v93, val_main_v94, val_main_v95, val_main_v96, val_main_v97, val_main_v98, val_main_v99, val_main_v100, val_main_v101, val_main_v102, val_main_v103, val_main_v104, val_main_v105, val_main_v106, val_main_v107, val_main_v108, val_main_v109, val_main_v110, val_main_v111, val_main_v112, val_main_v113, val_main_v114, val_main_call3_cst, val_main_call3_v0, val_main_v115]
  refine congrArg₂ max (congrArg₂ (· + ·) ?_ rfl) rfl
  unfold tap9
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals
    refine Finset.sum_congr rfl fun ci _ => (mul_comm _ _).trans ?_
    refine congrArg₂ (· * ·) (congrArg _ ((ix4_inj ..).2 ⟨rfl, rfl, Fin.ext ?_, Fin.ext ?_⟩)) rfl <;>
      simp only [Fin.coe_ofNat_eq_mod, Nat.reduceMod, Fin.val_mk] <;> omega

/-- The zero border of the input of layer 3. -/
theorem border3 (x0 : FVec Ideal S8x3x224x224 .f32) (x2 : FVec Ideal S64x3x3x3 .f32) (x3 : FVec Ideal S64 .f32) (x4 : FVec Ideal S128x64x3x3 .f32) (x5 : FVec Ideal S128 .f32) (b : Fin 8) (ci : Fin 128) (r c : Fin 226) :
    val_main_v116 (F := Ideal) x0 x2 x3 x4 x5 (ix4 b ci r c) = ring (img fun i j => val_main_v115 (F := Ideal) x0 x2 x3 x4 x5 (ix4 b ci i j)) r c := by
  unfold val_main_v116
  generalize val_main_v115 (F := Ideal) x0 x2 x3 x4 x5 = y
  pointwise [val_main_c_1, val_main_call4_v0]
  by_cases h : 1 ≤ r.val ∧ r.val ≤ 224 ∧ 1 ≤ c.val ∧ c.val ≤ 224
  · rw [ring_img _ _ _ h]
    exact dif_pos (by omega)
  · unfold ring
    rw [if_neg h, dif_neg (by omega)]
    exact zeroWord

/-- Layer 3 of the reference. -/
theorem layer3 (x0 : FVec Ideal S8x3x224x224 .f32) (x2 : FVec Ideal S64x3x3x3 .f32) (x3 : FVec Ideal S64 .f32) (x4 : FVec Ideal S128x64x3x3 .f32) (x5 : FVec Ideal S128 .f32) (x6 : FVec Ideal S214x128x3x3 .f32) (x7 : FVec Ideal S214 .f32) (b : Fin 8) (o : Fin 214) (i j : Fin 224) :
    val_main_v173 (F := Ideal) x0 x2 x3 x4 x5 x6 x7 (ix4 b o i j)
      = layer (fun ci => img fun r c => val_main_v115 (F := Ideal) x0 x2 x3 x4 x5 (ix4 b ci r c)) (fun ci ky kx => x6 (ix4 o ci ky kx)) (x7 (ix1 o)) i j := by
  have e : ∀ ky kx : Fin 3, ∀ ci : Fin 128, ring (img fun r c => val_main_v115 (F := Ideal) x0 x2 x3 x4 x5 (ix4 b ci r c)) (i + ky) (j + kx)
      = val_main_v116 (F := Ideal) x0 x2 x3 x4 x5 (ix4 b ci ⟨i + ky, by omega⟩ ⟨j + kx, by omega⟩) := fun ky kx ci => (border3 x0 x2 x3 x4 x5 b ci ⟨i + ky, by omega⟩ ⟨j + kx, by omega⟩).symm
  unfold layer
  simp only [e]
  pointwise [val_main_v117, val_main_v118, val_main_v119, val_main_v120, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_v146, val_main_v147, val_main_v148, val_main_v149, val_main_v150, val_main_v151, val_main_v152, val_main_v153, val_main_v154, val_main_v155, val_main_v156, val_main_v157, val_main_v158, val_main_v159, val_main_v160, val_main_v161, val_main_v162, val_main_v163, val_main_v164, val_main_v165, val_main_v166, val_main_v167, val_main_v168, val_main_v169, val_main_v170, val_main_v171, val_main_v172, val_main_call5_cst, val_main_call5_v0, val_main_v173]
  refine congrArg₂ max (congrArg₂ (· + ·) ?_ rfl) rfl
  unfold tap9
  refine congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_
  all_goals
    refine Finset.sum_congr rfl fun ci _ => (mul_comm _ _).trans ?_
    refine congrArg₂ (· * ·) (congrArg _ ((ix4_inj ..).2 ⟨rfl, rfl, Fin.ext ?_, Fin.ext ?_⟩)) rfl <;>
      simp only [Fin.coe_ofNat_eq_mod, Nat.reduceMod, Fin.val_mk] <;> omega

end Cert.ReferenceIdeal.Value
-- ==== Proof.Value.Scatter.lean ====
module

public import proofs.«01_k».proof.Proof.Value.RefTrunk
public import Idealize.ShloMosaic.Lib.Routing.OpsPair
public import Idealize.ShloMosaic.Lib.Routing.Ops

@[expose] public section

set_option maxRecDepth 16384

noncomputable section

open Idealize.ShloMosaic Idealize.ShloMosaic.TcCoe Idealize.SL.Sem Idealize.ShloMosaic.Routing
open Cert.ReferenceIdeal Cert.ReferenceIdeal.Gen Cert.ReferenceIdeal.Read Cert.Spec

namespace Cert.ReferenceIdeal.Value

/-- Where one update of the per-pixel scatter lands. -/
theorem pixel_lands (idx : IVec S224x224x3 32) (b b' : Fin 8) (q : Fin 214) (i j i' j' : Fin 224) :
    scatter_S8x214x224x224_S224x224x3_S8x224x224_0_123_123_2.resultIdx? (ix3 b' i' j') idx = some (ix4 b q i j)
      ↔ b' = b ∧ (idx (ix3 i' j' 0)).toInt = q.val ∧ (idx (ix3 i' j' 1)).toInt = i.val ∧ (idx (ix3 i' j' 2)).toInt = j.val := by
  rw [resultIdx?_eq_some]
  have s0 : scatter_S8x214x224x224_S224x224x3_S8x224x224_0_123_123_2.start (ix3 b' i' j') idx (0 : Fin 4) = 0 := rfl
  have w0 : scatter_S8x214x224x224_S224x224x3_S8x224x224_0_123_123_2.window (ix3 b' i' j') (0 : Fin 4) = b'.val := rfl
  have w1 : scatter_S8x214x224x224_S224x224x3_S8x224x224_0_123_123_2.window (ix3 b' i' j') (1 : Fin 4) = 0 := rfl
  have w2 : scatter_S8x214x224x224_S224x224x3_S8x224x224_0_123_123_2.window (ix3 b' i' j') (2 : Fin 4) = 0 := rfl
  have w3 : scatter_S8x214x224x224_S224x224x3_S8x224x224_0_123_123_2.window (ix3 b' i' j') (3 : Fin 4) = 0 := rfl
  have e : ∀ (n : Fin 3) (x : S224x224x3.Idx), (x 0).val = i'.val → (x 1).val = j'.val → (x 2).val = n.val → x = ix3 i' j' n := by
    intro n x h0 h1 h2
    refine funext fun a => Fin.ext ?_
    match a with
    | ⟨0, _⟩ => exact h0
    | ⟨1, _⟩ => exact h1
    | ⟨2, _⟩ => exact h2
  have s1 : scatter_S8x214x224x224_S224x224x3_S8x224x224_0_123_123_2.start (ix3 b' i' j') idx (1 : Fin 4) = (idx (ix3 i' j' 0)).toInt :=
    congrArg (fun x => (idx x).toInt) (e 0 _ rfl rfl rfl)
  have s2 : scatter_S8x214x224x224_S224x224x3_S8x224x224_0_123_123_2.start (ix3 b' i' j') idx (2 : Fin 4) = (idx (ix3 i' j' 1)).toInt :=
    congrArg (fun x => (idx x).toInt) (e 1 _ rfl rfl rfl)
  have s3 : scatter_S8x214x224x224_S224x224x3_S8x224x224_0_123_123_2.start (ix3 b' i' j') idx (3 : Fin 4) = (idx (ix3 i' j' 2)).toInt :=
    congrArg (fun x => (idx x).toInt) (e 2 _ rfl rfl rfl)
  constructor
  · intro h
    have h0 := h (0 : Fin 4)
    have h1 := h (1 : Fin 4)
    have h2 := h (2 : Fin 4)
    have h3 := h (3 : Fin 4)
    rw [s0, w0] at h0
    rw [s1, w1] at h1
    rw [s2, w2] at h2
    rw [s3, w3] at h3
    change (0 : Int) + (b'.val : Int) = (b.val : Int) at h0
    change _ = (q.val : Int) at h1
    change _ = (i.val : Int) at h2
    change _ = (j.val : Int) at h3
    exact ⟨Fin.ext (by omega), by simpa using h1, by simpa using h2, by simpa using h3⟩
  · rintro ⟨rfl, h1, h2, h3⟩ a
    match a with
    | ⟨0, _⟩ => exact (congrArg₂ (· + ·) s0 (congrArg Nat.cast w0)).trans (by simp)
    | ⟨1, _⟩ => exact (congrArg₂ (· + ·) s1 (congrArg Nat.cast w1)).trans (by rw [h1]; simp)
    | ⟨2, _⟩ => exact (congrArg₂ (· + ·) s2 (congrArg Nat.cast w2)).trans (by rw [h2]; simp)
    | ⟨3, _⟩ => exact (congrArg₂ (· + ·) s3 (congrArg Nat.cast w3)).trans (by rw [h3]; simp)

/-- Where one update of the histogram lands. -/
theorem bin_lands (idx : IVec S50176x1 32) (l : Fin 50176) (q : Fin 214) :
    scatter_S214_S50176x1_S50176_n_0_0_1.resultIdx? (ix1 l) idx = some (ix1 q) ↔ (idx (ix2 l 0)).toInt = q.val := by
  have w0 : scatter_S214_S50176x1_S50176_n_0_0_1.window (ix1 l) (0 : Fin 1) = 0 := rfl
  have e : ∀ x : S50176x1.Idx, (x 0).val = l.val → x = ix2 l 0 := by
    intro x h0
    refine funext fun a => Fin.ext ?_
    match a with
    | ⟨0, _⟩ => exact h0
    | ⟨1, _⟩ => exact congrArg Fin.val (Subsingleton.elim (α := Fin 1) (x 1) 0)
  have s0 : scatter_S214_S50176x1_S50176_n_0_0_1.start (ix1 l) idx (0 : Fin 1) = (idx (ix2 l 0)).toInt :=
    congrArg (fun x => (idx x).toInt) (e _ rfl)
  refine (resultIdx?_ix1 _ _ _ _).trans ?_
  rw [s0, w0]
  simp

/-- Adding one at every hit counts the hits. -/
theorem fold_ones {ι : Type} (P : ι → Bool) : ∀ (L : List ι) (a : ℕ),
    L.foldl (fun (x : BitVec 32) n => if P n then IntOp.addi x 1#32 else x) (BitVec.ofNat 32 a) = BitVec.ofNat 32 (a + L.countP P)
  | [], a => rfl
  | n :: L, a => by
    rw [List.foldl_cons, List.countP_cons]
    by_cases h : P n
    · simp only [h, if_true]
      have : IntOp.addi (BitVec.ofNat 32 a) 1#32 = BitVec.ofNat 32 (a + 1) := by
        show BitVec.ofNat 32 a + 1#32 = _
        rw [BitVec.ofNat_add]
      rw [this, fold_ones P L (a + 1)]
      congr 1; omega
    · simp only [h]
      exact fold_ones P L a

/-- A count over a list of all positions as a sum of ones. -/
theorem count_hits {N M : ℕ} (e : N = M) (P : Fin M → Prop) [DecidablePred P] :
    (List.finRange N).countP (fun n => decide (P (n.cast e))) = ∑ l : Fin M, if P l then 1 else 0 := by
  subst e
  rw [← Finset.card_filter, List.countP_eq_length_filter, ← List.toFinset_card_of_nodup ((List.nodup_finRange _).filter _)]
  congr 1
  ext a
  simp

/-- The histogram of a row of 50176 bin words. -/
theorem hist (z : IVec S214 32) (hz : ∀ q, z q = 0#32) (idx : IVec S50176x1 32) (upd : IVec S50176 32) (hu : ∀ l, upd l = 1#32) (q : Fin 214) :
    Host.scatter scatter_S214_S50176x1_S50176_n_0_0_1 IntOp.addi z idx upd (ix1 q)
      = BitVec.ofNat 32 (∑ l : Fin 50176, if (idx (ix2 l 0)).toInt = q.val then 1 else 0) := by
  rw [scatter_at, hz]
  have hn : S50176.numel = 50176 := numel1 50176
  have hs : ∀ n : Fin S50176.numel, S50176.rowMajor.symm n = ix1 (n.cast hn) := fun n => by
    rw [Equiv.symm_apply_eq]
    refine Fin.ext ?_
    rw [Shape.rowMajor_val_one]
    rfl
  have := fold_ones (fun n : Fin S50176.numel => decide ((idx (ix2 (n.cast hn) 0)).toInt = q.val)) (List.finRange S50176.numel) 0
  refine (Eq.trans ?_ this).trans ?_
  · refine congrArg (fun f => List.foldl f _ _) (funext fun x => funext fun n => ?_)
    rw [hs, hu]
    simp only [bin_lands, decide_eq_true_eq]
  · refine congrArg (BitVec.ofNat 32) ?_
    rw [Nat.zero_add]
    exact count_hits hn fun l : Fin 50176 => (idx (ix2 l 0)).toInt = (q.val : Int)

end Cert.ReferenceIdeal.Value
-- ==== Proof.Value.RefTail.lean ====
module

public import proofs.«01_k».proof.Proof.Value.Scatter
public import Idealize.ShloMosaic.Lib.ReduceAll

@[expose] public section

set_option maxRecDepth 16384

noncomputable section

open Idealize.ShloMosaic Idealize.ShloMosaic.TcCoe Idealize.SL.Sem Idealize.ShloMosaic.Routing Idealize.ShloMosaic.WordCmp
open Cert.ReferenceIdeal Cert.ReferenceIdeal.Gen Cert.ReferenceIdeal.Read Cert.Spec

namespace Cert.Spec

/-- The whole trunk of three layers at image `b`, channel `o`, pixel `(i, j)`. -/
def trunk (x0 : FVec Ideal S8x3x224x224 .f32) (x2 : FVec Ideal S64x3x3x3 .f32) (x3 : FVec Ideal S64 .f32) (x4 : FVec Ideal S128x64x3x3 .f32)
    (x5 : FVec Ideal S128 .f32) (x6 : FVec Ideal S214x128x3x3 .f32) (x7 : FVec Ideal S214 .f32) (b : Fin 8) (o : Fin 214) (i j : ℕ) : EReal :=
  layer (fun c2 => layer (fun c1 => layer (fun ci => img fun r c => x0 (ix4 b ci r c)) (fun ci ky kx => x2 (ix4 c1 ci ky kx)) (x3 (ix1 c1)))
    (fun c1 ky kx => x4 (ix4 c2 c1 ky kx)) (x5 (ix1 c2))) (fun c2 ky kx => x6 (ix4 o c2 ky kx)) (x7 (ix1 o)) i j

/-- How many pixels hold bin `q`. -/
def count (p : IVec S1x224x224 32) (q : Fin 214) : ℕ :=
  ∑ l : Fin 50176, if (p (ix3 0 (⟨l / 224, by omega⟩ : Fin 224) (⟨l % 224, by omega⟩ : Fin 224))).toInt = q.val then 1 else 0

/-- The greatest of two scores. -/
def top (z : Fin 2 → EReal) : EReal := Finset.fold max (Ideal.ofBits FTy.f32 0xFF800000#32) z Finset.univ

/-- The softmax of two scores. -/
def soft (z : Fin 2 → EReal) (k : Fin 2) : EReal := Ideal.div (Ideal.exp (z k - top z)) (∑ x, Ideal.exp (z x - top z))

/-- The score of class `k` from the channel sums of one image: the channel means through the last dense layer. -/
def score (S : Fin 214 → EReal) (x8 : FVec Ideal S2x214 .f32) (x9 : FVec Ideal S2 .f32) (k : Fin 2) : EReal :=
  ∑ o, S o * ((1 / 50176 : ℝ) : EReal) * x8 (ix2 k o) + x9 (ix1 k)

theorem pixels : Ideal.ofBits FTy.f32 0x47440000#32 = ((50176 : ℝ) : EReal) := by
  simp [Ideal.ofBits, Ideal.ieee, -EReal.coe_mul]; norm_num

end Cert.Spec

namespace Cert.ReferenceIdeal.Value

/-- A word that is not negative is not wrapped. -/
theorem wrap_word (x a : BitVec 32) (h : 0 ≤ x.toInt) : Scalar.select (IntOp.cmpi .slt x 0#32) a x = x :=
  wrap_of_lt x a (by rw [BitVec.toInt_eq_toNat_cond] at h; split at h <;> omega)

theorem natWord (n : ℕ) (h : n < 224) : (BitVec.ofNat 32 n).toInt = n := by
  rw [BitVec.toInt_eq_toNat_cond, BitVec.toNat_ofNat]; split <;> omega

section
variable (x0 : FVec Ideal S8x3x224x224 .f32) (x1 : IVec S1x224x224 32) (x2 : FVec Ideal S64x3x3x3 .f32) (x3 : FVec Ideal S64 .f32)
  (x4 : FVec Ideal S128x64x3x3 .f32) (x5 : FVec Ideal S128 .f32) (x6 : FVec Ideal S214x128x3x3 .f32) (x7 : FVec Ideal S214 .f32)
  (x8 : FVec Ideal S2x214 .f32) (x9 : FVec Ideal S2 .f32)

/-- The reference's third layer is the trunk. -/
theorem ref_trunk (b : Fin 8) (o : Fin 214) (i j : Fin 224) :
    val_main_v173 (F := Ideal) x0 x2 x3 x4 x5 x6 x7 (ix4 b o i j) = trunk x0 x2 x3 x4 x5 x6 x7 b o i j := by
  rw [layer3]
  refine layer_congr (fun c2 r c hr hc => ?_) _ _ _ _
  refine (img_at _ ⟨r, hr⟩ ⟨c, hc⟩).trans ?_
  rw [layer2]
  refine layer_congr (fun c1 r c hr hc => ?_) _ _ _ _
  refine (img_at _ ⟨r, hr⟩ ⟨c, hc⟩).trans ?_
  rw [layer1]

/-- The channel sum of the trunk at a pixel. -/
theorem pix (b : Fin 8) (i j : Fin 224) : val_main_v194 (F := Ideal) x0 x2 x3 x4 x5 x6 x7 (ix3 b i j) = ∑ o, trunk x0 x2 x3 x4 x5 x6 x7 b o i j := by
  simp only [← ref_trunk]
  pointwise [val_main_v194, val_main_cst_6]

/-- The sum of the trunk over the pixels of a channel. -/
theorem tot (b : Fin 8) (o : Fin 214) : val_main_v174 (F := Ideal) x0 x2 x3 x4 x5 x6 x7 (ix2 b o) = ∑ i : Fin 224, ∑ j : Fin 224, trunk x0 x2 x3 x4 x5 x6 x7 b o i j := by
  simp only [← ref_trunk]
  pointwise [val_main_v174, val_main_cst]

/-- The first result of the reference. -/
theorem ref_first (b : Fin 8) (k : Fin 2) : val_main_v192 (F := Ideal) x0 x2 x3 x4 x5 x6 x7 x8 x9 (ix2 b k)
    = soft (score (fun o => ∑ i : Fin 224, ∑ j : Fin 224, trunk x0 x2 x3 x4 x5 x6 x7 b o i j) x8 x9) k := by
  have hm : ∀ z : Fin 2 → EReal, max (Ideal.ofBits FTy.f32 0xFF800000#32) (Finset.fold max (Ideal.ofBits FTy.f32 0xFF800000#32) z Finset.univ) = top z := fun z =>
    max_eq_right ((Finset.le_fold_max _).2 (Or.inl le_rfl))
  pointwise [val_main_v192, val_main_v191, val_main_v190, val_main_v189, val_main_v188, val_main_v187, val_main_v186, val_main_v185, val_main_v184, val_main_v183, val_main_v182, val_main_v181, val_main_v180, val_main_v179, val_main_v178, val_main_v177, val_main_v176, val_main_v175, val_main_cst_2, val_main_cst_3, val_main_cst_4, val_main_cst_5]
  simp only [tot, pixels, Ideal.div_coe (show (50176 : ℝ) ≠ 0 by norm_num)]
  rw [hm]
  rfl

variable (hp : ∀ i j : Fin 224, 0 ≤ (x1 (ix3 0 i j)).toInt ∧ (x1 (ix3 0 i j)).toInt < 214)
include hp

/-- The three index words of a pixel. -/
theorem words0 (i j : Fin 224) : val_main_v218 (F := Ideal) x1 (ix3 i j 0) = x1 (ix3 0 i j) := by
  have := hp i j
  pointwise [val_main_v218, val_main_v217, val_main_v216, val_main_v215, val_main_v204, val_main_v201, val_main_v203, val_main_v200, val_main_v202, val_main_v193, val_main_c_8, val_main_c_9]
  exact wrap_word _ _ this.1

theorem words1 (i j : Fin 224) : (val_main_v218 (F := Ideal) x1 (ix3 i j 1)).toInt = i.val := by
  pointwise [val_main_v218, val_main_v217, val_main_v216, val_main_v215, val_main_v209, val_main_v208, val_main_v207, val_main_v206, val_main_v205, val_main_v197, val_main_v195, val_main_c_10, val_main_c_11]
  rw [wrap_word _ _ (by rw [natWord _ i.isLt]; omega), natWord _ i.isLt]

theorem words2 (i j : Fin 224) : (val_main_v218 (F := Ideal) x1 (ix3 i j 2)).toInt = j.val := by
  pointwise [val_main_v218, val_main_v217, val_main_v216, val_main_v215, val_main_v214, val_main_v213, val_main_v212, val_main_v211, val_main_v210, val_main_v198, val_main_v196, val_main_c_12, val_main_c_13]
  rw [wrap_word _ _ (by rw [natWord _ j.isLt]; omega), natWord _ j.isLt]

/-- The bin word of a pixel, the pixels in one row. -/
theorem binWord (l : Fin 50176) : val_main_v228 (F := Ideal) x1 (ix2 l 0) = x1 (ix3 0 (⟨l / 224, by omega⟩ : Fin 224) (⟨l % 224, by omega⟩ : Fin 224)) := by
  have := hp ⟨l / 224, by omega⟩ ⟨l % 224, by omega⟩
  pointwise [val_main_v228, val_main_v227, val_main_v226, val_main_v225, val_main_v224, val_main_v223, val_main_v222, val_main_v220, val_main_v193, val_main_call6_v1, val_main_call6_v0, val_main_c_15, val_main_c_16, val_main_c_17]
  generalize x1 _ = w at this ⊢
  have hm : IntOp.maxsi 0#32 w = w := by
    unfold IntOp.maxsi
    rw [if_neg]
    rw [Bool.not_eq_true, BitVec.slt_eq_decide, decide_eq_false_iff_not]
    simpa using this.1
  have hc : (id (constantI S_ 32 0#32) ix0 : BitVec 32) = 0#32 := rfl
  rw [hc, hm]
  exact wrap_word _ _ this.1

/-- The divisor of a bin: one more than its number of pixels. -/
theorem divisor (q : Fin 214) : val_main_v233 (F := Ideal) x1 (ix1 q) = ((1 + (count x1 q : ℝ) : ℝ) : EReal) := by
  have hb : count x1 q ≤ 50176 := by
    refine (Finset.sum_le_card_nsmul Finset.univ _ 1 fun l _ => ?_).trans (by simp)
    split <;> omega
  have h : val_main_v230 (F := Ideal) x1 (ix1 q) = BitVec.ofNat 32 (count x1 q) := by
    unfold val_main_v230
    rw [hist _ (fun q => by pointwise [val_main_v221, val_main_c_14]) _ _ (fun l => by pointwise [val_main_v229, val_main_c_18])]
    simp only [binWord x1 hp]
    rfl
  have hi : (BitVec.ofNat 32 (count x1 q)).toInt = (count x1 q : Int) := by
    rw [BitVec.toInt_eq_toNat_cond, BitVec.toNat_ofNat]; split <;> omega
  pointwise [val_main_v233, val_main_v232, val_main_v231, val_main_cst_19]
  rw [h]
  show (1 : EReal) + (((BitVec.ofNat 32 (count x1 q)).toInt : ℝ) : EReal) = _
  rw [hi, EReal.coe_add]
  rfl

/-- The per-pixel scatter at an entry: the channel sum in the pixel's own bin, zero in the others. -/
theorem spread (b : Fin 8) (q : Fin 214) (i j : Fin 224) : val_main_v219 (F := Ideal) x0 x1 x2 x3 x4 x5 x6 x7 (ix4 b q i j)
    = if (x1 (ix3 0 i j)).toInt = q.val then ∑ o, trunk x0 x2 x3 x4 x5 x6 x7 b o i j else 0 := by
  have hz : val_main_v199 (F := Ideal) (ix4 b q i j) = 0 := by pointwise [val_main_v199, val_main_cst_7]
  have hl : ∀ k : S8x224x224.Idx, scatter_S8x214x224x224_S224x224x3_S8x224x224_0_123_123_2.resultIdx? k (val_main_v218 (F := Ideal) x1) = some (ix4 b q i j)
      ↔ k = ix3 b i j ∧ (x1 (ix3 0 i j)).toInt = q.val := by
    intro k
    obtain ⟨b', i', j', rfl⟩ : ∃ (b' : Fin 8) (i' j' : Fin 224), k = ix3 b' i' j' := ⟨k 0, k 1, k 2, funext fun a => by
      match a with
      | ⟨0, _⟩ => rfl
      | ⟨1, _⟩ => rfl
      | ⟨2, _⟩ => rfl⟩
    rw [pixel_lands, words0 x1 hp, words1 x1 hp, words2 x1 hp]
    constructor
    · rintro ⟨rfl, h1, h2, h3⟩
      obtain rfl : i' = i := Fin.ext (by omega)
      obtain rfl : j' = j := Fin.ext (by omega)
      exact ⟨rfl, h1⟩
    · rintro ⟨h, h1⟩
      have h0 : b' = b := congrFun h 0
      have h2 : i' = i := congrFun h 1
      have h3 : j' = j := congrFun h 2
      subst h0 h2 h3
      exact ⟨rfl, h1, rfl, rfl⟩
  unfold val_main_v219
  refine (congrFun (Ideal.hostScatterAdd_def _ _ _ _ _) _).trans ?_
  unfold Ideal.hostScatterAdd
  rw [hz, zero_add]
  simp only [hl]
  by_cases h : (x1 (ix3 0 i j)).toInt = q.val
  · simp only [h, and_true, if_true, Finset.filter_eq', Finset.mem_univ, Finset.sum_singleton]
    exact pix x0 x2 x3 x4 x5 x6 x7 b i j
  · simp only [h, and_false, if_false, Finset.filter_false, Finset.sum_empty]

/-- The second result of the reference. -/
theorem ref_second (b : Fin 8) (q : Fin 214) (i j : Fin 224) : val_main_v239 (F := Ideal) x0 x1 x2 x3 x4 x5 x6 x7 (ix4 b q i j)
    = (∑ o, trunk x0 x2 x3 x4 x5 x6 x7 b o i j) * ((1 / (1 + (count x1 q : ℝ)) : ℝ) : EReal) := by
  have hs : val_main_v234 (F := Ideal) x0 x1 x2 x3 x4 x5 x6 x7 (ix3 b i j) = ∑ o, trunk x0 x2 x3 x4 x5 x6 x7 b o i j := by
    have hr := hp i j
    have e : val_main_v234 (F := Ideal) x0 x1 x2 x3 x4 x5 x6 x7 (ix3 b i j) = ∑ q : Fin 214, val_main_v219 (F := Ideal) x0 x1 x2 x3 x4 x5 x6 x7 (ix4 b q i j) := by
      pointwise [val_main_v234, val_main_cst_20]
    rw [e, Finset.sum_eq_single (⟨(x1 (ix3 0 i j)).toInt.toNat, by omega⟩ : Fin 214)]
    · rw [spread x0 x1 x2 x3 x4 x5 x6 x7 hp, if_pos (by show _ = (((x1 (ix3 0 i j)).toInt.toNat : ℕ) : Int); omega)]
    · intro r _ hr
      rw [spread x0 x1 x2 x3 x4 x5 x6 x7 hp, if_neg]
      intro h
      exact hr (Fin.ext (by show r.val = (x1 (ix3 0 i j)).toInt.toNat; omega))
    · intro h
      exact (h (Finset.mem_univ _)).elim
  pointwise [val_main_v239, val_main_v238, val_main_v237, val_main_v236, val_main_v235]
  rw [hs, divisor x1 hp]
  have hc : (1 + (count x1 q : ℝ)) ≠ 0 := by positivity
  exact Ideal.div_coe hc _

end

end Cert.ReferenceIdeal.Value
-- ==== Proof.Value.TrunkRun.lean ====
module

public import proofs.«01_k».proof.Proof.KernelIdealRun.Trunk
public import proofs.«01_k».proof.Proof.Value.Tile
public import proofs.«01_k».proof.Proof.Value.RefTail
public import Idealize.ShloMosaic.Lib.Pipeline.ValueKit

@[expose] public section

set_option maxRecDepth 16384

noncomputable section

open Idealize.ShloMosaic Idealize.ShloMosaic.WordCmp Idealize.ShloMosaic.TcCoe Idealize.SL.Sem
open Idealize.ShloMosaic.Pipeline (Dat)
open Cert.KernelIdeal Cert.KernelIdeal.Gen Cert.KernelIdeal.Run Cert.Spec

namespace Cert.KernelIdeal.Value

variable (V : (c : Dev nD) → (b : Ref sig .tc) → Buf (Elt Ideal) ((c : Thread nD τ).loc b))

theorem pt_lt (t : Fin cfg0.N) : t.val < 56 := lt_of_lt_of_eq t.isLt N_0

theorem idx0 : ∀ t : Fin cfg0.N, win0_0.index t = ![t.val / 7, 0, 0, 0] ∧ win0_1.index t = ![0, 0, 0] ∧ win0_2.index t = ![0, 0, 0]
    ∧ win0_3.index t = ![0, 0, 0] ∧ win0_4.index t = ![0, 0] ∧ win0_5.index t = ![0, 0] ∧ win0_6.index t = ![0, 0]
    ∧ win0_7.index t = ![t.val / 7, t.val % 7, 0] ∧ win0_8.index t = ![t.val / 7, 0, 0] :=
  (by decide +kernel : ∀ t : Fin grid0.N, _)

theorem off0 : ∀ t : Fin cfg0.N, k0_off1 (grid0.coords t) = ![0, 0, 32 * (t.val % 7), 0] ∧ (grid0.coords t 1).val = t.val % 7 :=
  (by decide +kernel : ∀ t : Fin grid0.N, _)

/-- The 38 rows of the padded image that one point loads. -/
theorem rows_read (c : Dev nD) (t : Fin cfg0.N) (inb) (ci : Fin 3) (r : Fin 38) (j : Fin 226) :
    View.ld (iblk0 V c 0 t) (Rect.unit (s := S1x3x230x226) (k0_off1 (grid0.coords t)) S1x3x38x226.size inb) (ix4 0 ci r j)
      = V c main_call0_v0 (ix4 (⟨t.val / 7, by have := pt_lt t; omega⟩ : Fin 8) ci (⟨32 * (t.val % 7) + r, by omega⟩ : Fin 230) j) := by
  rw [View.ld_unit_apply_of _ _ _ _ _ (ix4 0 ci (⟨32 * (t.val % 7) + r, by omega⟩ : Fin 230) j) fun a => by
    refine Eq.trans ?_ (congrArg (· + _) (congrFun (off0 t).1 a).symm)
    match a with
    | 0 => rfl
    | 1 => exact (Nat.zero_add _).symm
    | 2 => rfl
    | 3 => exact (Nat.zero_add _).symm]
  blk_ext [iblk0, idx0 t]

theorem read1 (c : Dev nD) (t : Fin cfg0.N) (x : S9x3x64.Idx) : iblk0 V c 1 t x = V c main_call0_v3 x := by
  blk_ext [iblk0, idx0 t]
theorem read2 (c : Dev nD) (t : Fin cfg0.N) (x : S9x64x128.Idx) : iblk0 V c 2 t x = V c main_call0_v6 x := by
  blk_ext [iblk0, idx0 t]
theorem read3 (c : Dev nD) (t : Fin cfg0.N) (x : S9x128x214.Idx) : iblk0 V c 3 t x = V c main_call0_v9 x := by
  blk_ext [iblk0, idx0 t]
theorem read4 (c : Dev nD) (t : Fin cfg0.N) (x : S1x64.Idx) : iblk0 V c 4 t x = V c main_call0_v10 x := by
  blk_ext [iblk0, idx0 t]
theorem read5 (c : Dev nD) (t : Fin cfg0.N) (x : S1x128.Idx) : iblk0 V c 5 t x = V c main_call0_v11 x := by
  blk_ext [iblk0, idx0 t]
theorem read6 (c : Dev nD) (t : Fin cfg0.N) (x : S1x214.Idx) : iblk0 V c 6 t x = V c main_call0_v12 x := by
  blk_ext [iblk0, idx0 t]

variable (x0 : FVec Ideal S8x3x224x224 .f32) (x2 : FVec Ideal S64x3x3x3 .f32) (x3 : FVec Ideal S64 .f32) (x4 : FVec Ideal S128x64x3x3 .f32)
  (x5 : FVec Ideal S128 .f32) (x6 : FVec Ideal S214x128x3x3 .f32) (x7 : FVec Ideal S214 .f32)

/-- What the operands of the trunk hold when it starts: the padded image, the weights with the taps in front, the biases as rows. -/
structure TrunkArgs (c : Dev nD) : Prop where
  image : ∀ (b : Fin 8) (ci : Fin 3) (r : Fin 230) (j : Fin 226), V c main_call0_v0 (ix4 b ci r j)
    = if 3 ≤ r.val ∧ r.val ≤ 226 ∧ 1 ≤ j.val ∧ j.val ≤ 224 then img (fun r c => x0 (ix4 b ci r c)) (r - 3) (j - 1) else 0
  w1 : ∀ (o : Fin 64) (ci : Fin 3) (ky kx : Fin 3), V c main_call0_v3 (ix3 (⟨3 * ky + kx, by omega⟩ : Fin 9) ci o) = x2 (ix4 o ci ky kx)
  b1 : ∀ o : Fin 64, V c main_call0_v10 (ix2 0 o) = x3 (ix1 o)
  w2 : ∀ (o : Fin 128) (ci : Fin 64) (ky kx : Fin 3), V c main_call0_v6 (ix3 (⟨3 * ky + kx, by omega⟩ : Fin 9) ci o) = x4 (ix4 o ci ky kx)
  b2 : ∀ o : Fin 128, V c main_call0_v11 (ix2 0 o) = x5 (ix1 o)
  w3 : ∀ (o : Fin 214) (ci : Fin 128) (ky kx : Fin 3), V c main_call0_v9 (ix3 (⟨3 * ky + kx, by omega⟩ : Fin 9) ci o) = x6 (ix4 o ci ky kx)
  b3 : ∀ o : Fin 214, V c main_call0_v12 (ix2 0 o) = x7 (ix1 o)

/-- The tile of the third layer that point `t` computes. -/
def tileAt (c : Dev nD) (t : Fin cfg0.N) : FVec Ideal S7232x214 .f32 :=
  tile3 (View.ld (iblk0 V c 0 t) (Rect.unit (s := S1x3x230x226) (k0_off1 (grid0.coords t)) S1x3x38x226.size (k0_off1_inb _)))
    (iblk0 V c 1 t) (iblk0 V c 4 t) (iblk0 V c 2 t) (iblk0 V c 5 t) (iblk0 V c 3 t) (iblk0 V c 6 t)
    (Scalar.addi (Scalar.muli (BitVec.ofNat 32 (grid0.coords t 1).val) 32#32) 1#32)
    (Scalar.addi (Scalar.muli (BitVec.ofNat 32 (grid0.coords t 1).val) 32#32) 2#32)

theorem row_word : ∀ (s : Fin 7) (k : Fin 3), Scalar.addi (Scalar.muli (BitVec.ofNat 32 s.val) 32#32) (BitVec.ofNat 32 k.val)
    = BitVec.ofNat 32 (32 * s.val + k.val) := by decide +kernel

variable {x0 x2 x3 x4 x5 x6 x7}

theorem tileAt_at {c : Dev nD} (H : TrunkArgs V x0 x2 x3 x4 x5 x6 x7 c) (t : Fin cfg0.N) (b : Fin 8) (hb : t.val / 7 = b.val)
    (r : Fin 32) (j : Fin 226) (hj : 1 ≤ j.val ∧ j.val ≤ 224) (o : Fin 214) :
    tileAt V c t (ix2 ⟨r * 226 + j, by omega⟩ o) = trunk x0 x2 x3 x4 x5 x6 x7 b o (32 * (t.val % 7) + r) (j - 1) := by
  obtain ⟨b, hlt⟩ := b
  obtain rfl : t.val / 7 = b := hb
  unfold tileAt
  have p1 : Scalar.addi (Scalar.muli (BitVec.ofNat 32 (t.val % 7)) 32#32) 1#32 = BitVec.ofNat 32 (32 * (t.val % 7) + 1) :=
    row_word ⟨t.val % 7, by omega⟩ 1
  have p2 : Scalar.addi (Scalar.muli (BitVec.ofNat 32 (t.val % 7)) 32#32) 2#32 = BitVec.ofNat 32 (32 * (t.val % 7) + 2) :=
    row_word ⟨t.val % 7, by omega⟩ 2
  rw [(off0 t).2, p1, p2]
  refine (tile3_at _ _ _ _ _ _ _ (fun ci => img fun r c => x0 (ix4 ⟨t.val / 7, hlt⟩ ci r c)) (32 * (t.val % 7))
    (fun ci r c' => (rows_read V c t _ ci r c').trans (H.image _ _ _ _)) (by omega) r j hj o).trans ?_
  have e1 : ∀ (o : Fin 64), wt1 (iblk0 V c 1 t) o = fun ci ky kx => x2 (ix4 o ci ky kx) := fun o =>
    funext fun ci => funext fun ky => funext fun kx => (read1 V c t _).trans (H.w1 o ci ky kx)
  have e2 : ∀ (o : Fin 128), wt2 (iblk0 V c 2 t) o = fun ci ky kx => x4 (ix4 o ci ky kx) := fun o =>
    funext fun ci => funext fun ky => funext fun kx => (read2 V c t _).trans (H.w2 o ci ky kx)
  have e3 : ∀ (o : Fin 214), wt3 (iblk0 V c 3 t) o = fun ci ky kx => x6 (ix4 o ci ky kx) := fun o =>
    funext fun ci => funext fun ky => funext fun kx => (read3 V c t _).trans (H.w3 o ci ky kx)
  have f1 : ∀ o : Fin 64, iblk0 V c 4 t (ix2 0 o : S1x64.Idx) = x3 (ix1 o) := fun o => (read4 V c t _).trans (H.b1 o)
  have f2 : ∀ o : Fin 128, iblk0 V c 5 t (ix2 0 o : S1x128.Idx) = x5 (ix1 o) := fun o => (read5 V c t _).trans (H.b2 o)
  have f3 : ∀ o : Fin 214, iblk0 V c 6 t (ix2 0 o : S1x214.Idx) = x7 (ix1 o) := fun o => (read6 V c t _).trans (H.b3 o)
  have g1 : img1 (iblk0 V c 1 t) (iblk0 V c 4 t) (fun ci => img fun r c => x0 (ix4 ⟨t.val / 7, hlt⟩ ci r c))
      = fun c1 => layer (fun ci => img fun r c => x0 (ix4 ⟨t.val / 7, hlt⟩ ci r c)) (fun ci ky kx => x2 (ix4 c1 ci ky kx)) (x3 (ix1 c1)) :=
    funext fun o => congrArg₂ (layer _) (e1 o) (f1 o)
  have g2 : img2 (iblk0 V c 1 t) (iblk0 V c 4 t) (iblk0 V c 2 t) (iblk0 V c 5 t) (fun ci => img fun r c => x0 (ix4 ⟨t.val / 7, hlt⟩ ci r c))
      = fun c2 => layer (fun c1 => layer (fun ci => img fun r c => x0 (ix4 ⟨t.val / 7, hlt⟩ ci r c)) (fun ci ky kx => x2 (ix4 c1 ci ky kx)) (x3 (ix1 c1)))
          (fun c1 ky kx => x4 (ix4 c2 c1 ky kx)) (x5 (ix1 c2)) :=
    funext fun o => (congrArg₂ (layer _) (e2 o) (f2 o)).trans (congrArg (fun h => layer h _ _) g1)
  unfold trunk
  rw [g2, e3]
  exact congrArg (fun y => layer _ _ y _ _) (f3 o)

theorem val_A (c : Dev nD) (t : Fin cfg0.N) (h0 : t.val % 7 = 0) :
    outsAt0 V c t.val t.isLt = (k0_pay2 (tileAt V c t) k0_pay25, k0_pay3 (tileAt V c t) k0_pay25) := by
  rw [outsAt0_A V c t h0 (by omega)]
  refine Prod.ext ?_ ?_
  · frame_out
    exact rfl
  · frame_out
    exact rfl

theorem val_B (c : Dev nD) (t : Fin cfg0.N) (h0 : ¬t.val % 7 = 0) :
    outsAt0 V c t.val t.isLt = (k0_pay2 (tileAt V c t) k0_pay25, k0_pay4 (tileAt V c t) k0_pay25
      (outsAt0 V c (t.val - 1) (lt_of_le_of_lt (Nat.sub_le _ _) t.isLt)).2) := by
  rw [outsAt0_B V c t h0 (by omega)]
  refine Prod.ext ?_ ?_
  · frame_out
    exact rfl
  · frame_out
    exact rfl

theorem val_any (c : Dev nD) (t : Fin cfg0.N) : (outsAt0 V c t.val t.isLt).1 = k0_pay2 (tileAt V c t) k0_pay25 := by
  by_cases h : t.val % 7 = 0
  · rw [val_A V c t h]
  · rw [val_B V c t h]

/-- The channel sum of one pixel as a point leaves it. -/
theorem val_at {c : Dev nD} (H : TrunkArgs V x0 x2 x3 x4 x5 x6 x7 c) (t : Fin cfg0.N) (b : Fin 8) (hb : t.val / 7 = b.val)
    (r : Fin 32) (j : Fin 224) (i : ℕ) (hi : i = 32 * (t.val % 7) + r) :
    (outsAt0 V c t.val t.isLt).1 (ix3 0 r j) = ∑ o, trunk x0 x2 x3 x4 x5 x6 x7 b o i j := by
  subst hi
  rw [val_any, chan_sum]
  refine Finset.sum_congr rfl fun o _ => ?_
  refine (congrArg₂ (· * ·) (tileAt_at V H t b hb r ⟨1 + j, by omega⟩ (by dsimp only; omega) o)
    ((mask3 r ⟨1 + j, by omega⟩).trans (if_pos (by dsimp only; omega)))).trans ?_
  rw [mul_one]
  exact congrArg _ (by dsimp only; omega)

/-- The sum over the pixels of one tile: the two border columns count nothing. -/
theorem tile_total {c : Dev nD} (H : TrunkArgs V x0 x2 x3 x4 x5 x6 x7 c) (t : Fin cfg0.N) (b : Fin 8) (hb : t.val / 7 = b.val) (o : Fin 214) :
    ∑ l : Fin 7232, tileAt V c t (ix2 l o) * k0_pay25 (F := Ideal) (ix2 l 0)
      = ∑ r : Fin 32, ∑ j : Fin 224, trunk x0 x2 x3 x4 x5 x6 x7 b o (32 * (t.val % 7) + r) j := by
  symm
  refine (Finset.sum_congr rfl fun r _ => ?_).trans (Fin.sum_mul_add_congr (n := 226) (F := fun (r : Fin 32) (j : Fin 226) =>
    tileAt V c t (ix2 ⟨r * 226 + j, by omega⟩ o) * k0_pay25 (F := Ideal) (ix2 ⟨r * 226 + j, by omega⟩ 0)) fun r j hl => rfl)
  symm
  rw [Fin.sum_univ_succ, Fin.sum_univ_castSucc]
  rw [mask3 r 0, if_neg (by decide), mul_zero, zero_add, mask3 r (Fin.last 224).succ, if_neg (by decide), mul_zero, add_zero]
  refine Finset.sum_congr rfl fun j _ => ?_
  have hj : 1 ≤ j.castSucc.succ.val ∧ j.castSucc.succ.val ≤ 224 := by
    rw [Fin.val_succ, Fin.val_castSucc]
    omega
  rw [mask3 r j.castSucc.succ, if_pos hj, mul_one, tileAt_at V H t b hb r j.castSucc.succ hj o]
  exact congrArg _ (by rw [Fin.val_succ, Fin.val_castSucc]; omega)

/-- The running sum over the tiles of one image. -/
theorem psum_at {c : Dev nD} (H : TrunkArgs V x0 x2 x3 x4 x5 x6 x7 c) (t : Fin cfg0.N) (o : Fin 214) :
    (outsAt0 V c t.val t.isLt).2 (ix3 0 0 o) = 0 + ∑ s ∈ Finset.range (t.val % 7 + 1), ∑ r : Fin 32, ∑ j : Fin 224,
      trunk x0 x2 x3 x4 x5 x6 x7 ⟨t.val / 7 % 8, by omega⟩ o (32 * s + r) j := by
  refine Pipeline.eq_sum_of_reset_step_apply_divmod (fun n h (o : Fin 214) => (outsAt0 V c n h).2 (ix3 0 0 o)) 7 (fun _ => 0)
    (fun d s o => ∑ r : Fin 32, ∑ j : Fin 224, trunk x0 x2 x3 x4 x5 x6 x7 ⟨d % 8, by omega⟩ o (32 * s + r) j) (fun t h o => ?_)
    (fun t h o => ?_) t o
  · refine (congrFun (congrArg Prod.snd (val_A V c t h)) _).trans ((tile_sum _ _ o).trans (Eq.trans ?_ (zero_add _).symm))
    exact tile_total V H t _ (by have := pt_lt t; dsimp only; omega) o
  · refine (congrFun (congrArg Prod.snd (val_B V c t h)) _).trans ((add_tile _ _ _ o).trans ?_)
    exact congrArg _ (tile_total V H t _ (by have := pt_lt t; dsimp only; omega) o)

theorem flush8 : ∀ t : Fin cfg0.N, win0_8.flush t = true → t.val % 7 = 6 :=
  (by decide +kernel : ∀ t : Fin grid0.N, _)

/-- The array of channel sums after the trunk. -/
theorem val_final {c : Dev nD} (H : TrunkArgs V x0 x2 x3 x4 x5 x6 x7 c) :
    (dat0 V c).arrAt 7 cfg0.N = fun y => ∑ o, trunk x0 x2 x3 x4 x5 x6 x7 (y 0) o (y 1 : Fin 224).val (y 2 : Fin 224).val := by
  refine (dat0 V c).arrAt_eq_of_covers 7 _ (by decide +kernel) fun t hf y => ?_
  have hb : t.val / 7 = (((win0_7.blk t).view.emb y 0 : Fin 8)).val := by
    have h0 : (y 0).val < 1 := (y 0).isLt
    blk_simp [idx0 t]
  blk_simp
  rw [after0_7]
  have hy : y = (ix3 0 (y 1 : Fin 32) (y 2 : Fin 224) : S1x32x224.Idx) := by blk_ext
  refine (congrArg _ hy).trans ((val_at V H t _ hb (y 1) (y 2) (win0_7.index t 1 * 32 + (y 1).val) (by
    blk_simp [idx0 t]
    omega)).trans (Finset.sum_congr rfl fun o _ => congrArg _ ?_))
  blk_simp [idx0 t]

/-- The array of pixel sums after the trunk. -/
theorem psum_final {c : Dev nD} (H : TrunkArgs V x0 x2 x3 x4 x5 x6 x7 c) :
    (dat0 V c).arrAt 8 cfg0.N = fun y => ∑ i : Fin 224, ∑ j : Fin 224, trunk x0 x2 x3 x4 x5 x6 x7 (y 0) (y 2) i j := by
  refine (dat0 V c).arrAt_eq_of_covers 8 _ (by decide +kernel) fun t hf y => ?_
  have h6 := flush8 t hf
  have hb : (⟨t.val / 7 % 8, by omega⟩ : Fin 8) = ((win0_8.blk t).view.emb y 0 : Fin 8) := by
    have h0 : (y 0).val < 1 := (y 0).isLt
    have := pt_lt t
    refine Fin.ext ?_
    blk_simp [idx0 t]
    show t.val / 7 % 8 = _
    omega
  have ho : (y 2 : Fin 214) = ((win0_8.blk t).view.emb y 2 : Fin 214) := by
    refine Fin.ext ?_
    blk_simp [idx0 t]
  blk_simp
  rw [after0_8, ← hb, ← ho]
  have hy : y = (ix3 0 0 (y 2 : Fin 214) : S1x1x214.Idx) := by blk_ext
  refine (congrArg _ hy).trans ((psum_at V H t (y 2)).trans ?_)
  rw [h6, zero_add, Finset.sum_range]
  exact Fin.sum_mul_add_congr fun s k hl => Finset.sum_congr rfl fun j _ => congrArg (fun i => trunk x0 x2 x3 x4 x5 x6 x7 _ _ i _)
    (by dsimp only; omega)

end Cert.KernelIdeal.Value
-- ==== Proof.Value.Host.lean ====
module

public import proofs.«01_k».proof.Proof.KernelIdealRun.Whole
public import proofs.«01_k».proof.Proof.Value.TrunkRun
public import proofs.«01_k».proof.Proof.Value.TrunkRun

@[expose] public section

set_option maxRecDepth 16384

noncomputable section

open Idealize.ShloMosaic Idealize.ShloMosaic.TcCoe Idealize.SL.Sem
open Cert.KernelIdeal Cert.KernelIdeal.Gen Cert.KernelIdeal.Run Cert.Spec

namespace Cert.KernelIdeal.Value

variable (m : (ℓ : Loc nD τ sig) → Buf (Elt Ideal) ℓ) (ρ : Dev nD → PrngReg)

/-- The image with the zeros the host puts around it. -/
def padded (x : FVec Ideal S8x3x224x224 .f32) : FVec Ideal S8x3x230x226 .f32 :=
  pad S8x3x230x226 ![0, 0, 3, 1] ![0, 0, 3, 1] ![0, 0, 0, 0] x (sitofp .f32 (constantI S_ 32 0#32)) pads_S8x3x224x224_S8x3x230x226_000_000_330_110 h_S_

/-- The weights of layer 1 with the taps in front. -/
def taps1 (x : FVec Ideal S64x3x3x3 .f32) : FVec Ideal S9x3x64 .bf16 :=
  truncf .bf16 (shapeCast S9x3x64 (transpose S3x3x3x64 [2, 3, 1, 0] x transposes_S64x3x3x3_S3x3x3x64_2_3_1_0) shapeCasts_S3x3x3x64_S9x3x64) bitsLt_bf16_f32

/-- The weights of layer 2 with the taps in front. -/
def taps2 (x : FVec Ideal S128x64x3x3 .f32) : FVec Ideal S9x64x128 .bf16 :=
  truncf .bf16 (shapeCast S9x64x128 (transpose S3x3x64x128 [2, 3, 1, 0] x transposes_S128x64x3x3_S3x3x64x128_2_3_1_0) shapeCasts_S3x3x64x128_S9x64x128) bitsLt_bf16_f32

/-- The weights of layer 3 with the taps in front. -/
def taps3 (x : FVec Ideal S214x128x3x3 .f32) : FVec Ideal S9x128x214 .bf16 :=
  truncf .bf16 (shapeCast S9x128x214 (transpose S3x3x128x214 [2, 3, 1, 0] x transposes_S214x128x3x3_S3x3x128x214_2_3_1_0) shapeCasts_S3x3x128x214_S9x128x214) bitsLt_bf16_f32

theorem padded_at (x : FVec Ideal S8x3x224x224 .f32) (b : Fin 8) (ci : Fin 3) (r : Fin 230) (j : Fin 226) : padded x (ix4 b ci r j)
    = if 3 ≤ r.val ∧ r.val ≤ 226 ∧ 1 ≤ j.val ∧ j.val ≤ 224 then img (fun r c => x (ix4 b ci r c)) (r - 3) (j - 1) else 0 := by
  pointwise [padded]
  by_cases h : 3 ≤ r.val ∧ r.val ≤ 226 ∧ 1 ≤ j.val ∧ j.val ≤ 224
  · rw [if_pos h]
    unfold img
    rw [dif_pos (show r.val - 3 < 224 ∧ j.val - 1 < 224 by omega)]
    exact dif_pos (by omega)
  · rw [if_neg h, dif_neg (by omega)]
    exact Cert.ReferenceIdeal.Value.zeroWord

theorem taps1_at (x : FVec Ideal S64x3x3x3 .f32) (o : Fin 64) (ci : Fin 3) (ky kx : Fin 3) :
    taps1 x (ix3 (⟨3 * ky + kx, by omega⟩ : Fin 9) ci o) = x (ix4 o ci ky kx) := by
  pointwise [taps1]

theorem taps2_at (x : FVec Ideal S128x64x3x3 .f32) (o : Fin 128) (ci : Fin 64) (ky kx : Fin 3) :
    taps2 x (ix3 (⟨3 * ky + kx, by omega⟩ : Fin 9) ci o) = x (ix4 o ci ky kx) := by
  pointwise [taps2]

theorem taps3_at (x : FVec Ideal S214x128x3x3 .f32) (o : Fin 214) (ci : Fin 128) (ky kx : Fin 3) :
    taps3 x (ix3 (⟨3 * ky + kx, by omega⟩ : Fin 9) ci o) = x (ix4 o ci ky kx) := by
  pointwise [taps3]

theorem host_v3 (c : Dev nD) : V3 m ρ c main_call0_v3 = taps1 (m ((c : Thread nD τ).loc main_arg2)) := by
  show StableHlo.after hostOps0 (W0 m ρ c) (Proc.devRef .tc main_call0_v3) = _
  after_results
  rfl
theorem host_v6 (c : Dev nD) : V3 m ρ c main_call0_v6 = taps2 (m ((c : Thread nD τ).loc main_arg4)) := by
  show StableHlo.after hostOps0 (W0 m ρ c) (Proc.devRef .tc main_call0_v6) = _
  after_results
  rfl
theorem host_v9 (c : Dev nD) : V3 m ρ c main_call0_v9 = taps3 (m ((c : Thread nD τ).loc main_arg6)) := by
  show StableHlo.after hostOps0 (W0 m ρ c) (Proc.devRef .tc main_call0_v9) = _
  after_results
  rfl
theorem host_v10 (c : Dev nD) (o : Fin 64) : V3 m ρ c main_call0_v10 (ix2 0 o) = (m ((c : Thread nD τ).loc main_arg3) : FVec Ideal S64 .f32) (ix1 o) := by
  show StableHlo.after hostOps0 (W0 m ρ c) (Proc.devRef .tc main_call0_v10) (ix2 0 o) = _
  after_results
  show shapeCast S1x64 (m ((c : Thread nD τ).loc main_arg3) : FVec Ideal S64 .f32) shapeCasts_S64_S1x64 (ix2 0 o) = _
  pointwise
theorem host_v11 (c : Dev nD) (o : Fin 128) : V3 m ρ c main_call0_v11 (ix2 0 o) = (m ((c : Thread nD τ).loc main_arg5) : FVec Ideal S128 .f32) (ix1 o) := by
  show StableHlo.after hostOps0 (W0 m ρ c) (Proc.devRef .tc main_call0_v11) (ix2 0 o) = _
  after_results
  show shapeCast S1x128 (m ((c : Thread nD τ).loc main_arg5) : FVec Ideal S128 .f32) shapeCasts_S128_S1x128 (ix2 0 o) = _
  pointwise
theorem host_v12 (c : Dev nD) (o : Fin 214) : V3 m ρ c main_call0_v12 (ix2 0 o) = (m ((c : Thread nD τ).loc main_arg7) : FVec Ideal S214 .f32) (ix1 o) := by
  show StableHlo.after hostOps0 (W0 m ρ c) (Proc.devRef .tc main_call0_v12) (ix2 0 o) = _
  after_results
  show shapeCast S1x214 (m ((c : Thread nD τ).loc main_arg7) : FVec Ideal S214 .f32) shapeCasts_S214_S1x214 (ix2 0 o) = _
  pointwise
theorem host_v14 (c : Dev nD) (o : Fin 2) : V3 m ρ c main_call0_v14 (ix2 0 o) = (m ((c : Thread nD τ).loc main_arg9) : FVec Ideal S2 .f32) (ix1 o) := by
  show StableHlo.after hostOps0 (W0 m ρ c) (Proc.devRef .tc main_call0_v14) (ix2 0 o) = _
  after_results
  show shapeCast S1x2 (m ((c : Thread nD τ).loc main_arg9) : FVec Ideal S2 .f32) shapeCasts_S2_S1x2 (ix2 0 o) = _
  pointwise
theorem host_v13 (c : Dev nD) (o : Fin 214) (k : Fin 2) : V3 m ρ c main_call0_v13 (ix2 o k) = (m ((c : Thread nD τ).loc main_arg8) : FVec Ideal S2x214 .f32) (ix2 k o) := by
  show StableHlo.after hostOps0 (W0 m ρ c) (Proc.devRef .tc main_call0_v13) (ix2 o k) = _
  after_results
  show transpose S214x2 [1, 0] (m ((c : Thread nD τ).loc main_arg8) : FVec Ideal S2x214 .f32) transposes_S2x214_S214x2_1_0 (ix2 o k) = _
  pointwise
theorem host_v0 (c : Dev nD) : V3 m ρ c main_call0_v0 = padded (m ((c : Thread nD τ).loc main_arg0)) := by
  show StableHlo.after hostOps0 (W0 m ρ c) (Proc.devRef .tc main_call0_v0) = _
  after_results
  rfl

/-- The operands of the trunk hold what they should. -/
theorem trunkArgs (c : Dev nD) : TrunkArgs (V3 m ρ) (m ((c : Thread nD τ).loc main_arg0)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) c where
  image b ci r j := (congrFun (host_v0 m ρ c) _).trans (padded_at _ b ci r j)
  w1 o ci ky kx := (congrFun (host_v3 m ρ c) _).trans (taps1_at _ o ci ky kx)
  b1 o := host_v10 m ρ c o
  w2 o ci ky kx := (congrFun (host_v6 m ρ c) _).trans (taps2_at _ o ci ky kx)
  b2 o := host_v11 m ρ c o
  w3 o ci ky kx := (congrFun (host_v9 m ρ c) _).trans (taps3_at _ o ci ky kx)
  b3 o := host_v12 m ρ c o

end Cert.KernelIdeal.Value
-- ==== Proof.Value.HeadPay.lean ====
module

public import proofs.«01_k».proof.Proof.Gen.KernelIdeal.Skeleton
public import proofs.«01_k».proof.Proof.Value.RefTail

@[expose] public section

set_option maxRecDepth 16384

noncomputable section

open Idealize.ShloMosaic Idealize.ShloMosaic.WordCmp Idealize.ShloMosaic.TcCoe Idealize.SL.Sem
open Cert.KernelIdeal Cert.KernelIdeal.Gen Cert.Spec

namespace Cert.KernelIdeal.Value

/-- One comparison of a bin word, counted. -/
theorem one_hit (w : BitVec 32) (q : Fin 214) :
    (FloatOps.sitofp (F := Ideal) FTy.f32 ((IntOp.cmpi .eq w (BitVec.ofNat 32 q.val)).setWidth 32) : EReal)
      = ((if w.toInt = q.val then 1 else 0 : ℕ) : EReal) := by
  have e : (w = BitVec.ofNat 32 q.val) ↔ w.toInt = q.val := by
    have hq := q.isLt
    constructor
    · rintro rfl
      rw [BitVec.toInt_eq_toNat_cond, BitVec.toNat_ofNat]; split <;> omega
    · intro h
      apply BitVec.eq_of_toNat_eq
      rw [BitVec.toNat_ofNat]
      rw [BitVec.toInt_eq_toNat_cond] at h
      split at h <;> omega
  by_cases h : w = BitVec.ofNat 32 q.val
  · rw [if_pos (e.mp h), IntOp.cmpi, h]
    simp [FloatOps.sitofp]
  · rw [if_neg (fun hh => h (e.mpr hh)), IntOp.cmpi]
    rw [show (w == BitVec.ofNat 32 q.val) = false from beq_false_of_ne h]
    simp [FloatOps.sitofp]

/-- Eight column counts and one more. -/
theorem counts_pay (v : Fin 8 → Vec Ideal S6272x1 .i32) (q : Fin 214) :
    k1_pay4 (F := Ideal) (iota .tc S1x214 32 [1] iota_S1x214_d1_w32) (k1_pay2 (v 0) (v 1) (v 2) (v 3)) (k1_pay3 (v 4)) (v 5) (v 6) (v 7) (ix2 0 q)
      = ((∑ k, ∑ r : Fin 6272, if (v k (ix2 r 0)).toInt = q.val then 1 else 0 : ℕ) : EReal) + 1 := by
  pointwise [k1_pay4, k1_pay2, k1_pay3]
  simp only [one_hit]
  rw [Fin.sum_univ_eight]
  simp only [Nat.cast_add, Nat.cast_sum]

theorem scores_pay (S : Vec Ideal S8x1x214 .f32) (κ : EReal) (w : Vec Ideal S214x2 .f32) (b : Vec Ideal S1x2 .f32) (i : Fin 8) (k : Fin 2) :
    k1_pay1 (F := Ideal) (k1_pay5 S) κ w b (ix2 i k) = soft (fun k => ∑ o, S (ix3 i 0 o) * κ * w (ix2 o k) + b (ix2 0 k)) k := by
  pointwise [k1_pay1, k1_pay5, soft, top]

theorem writer_pay (x : Vec Ideal S1x32x224 .f32) (n : Vec Ideal S1x214x1x1 .f32) (q : Fin 214) (r : Fin 32) (j : Fin 224) :
    k2_pay1 (F := Ideal) x n (ix4 0 q r j) = x (ix3 0 r j) * Ideal.div 1 (n (ix4 0 q 0 0)) := by
  pointwise [k2_pay1]

end Cert.KernelIdeal.Value
-- ==== Proof.Value.HeadRun.lean ====
module

public import proofs.«01_k».proof.Proof.KernelIdealRun.HeadWriter
public import proofs.«01_k».proof.Proof.Value.HeadPay
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)
open Cert.KernelIdeal Cert.KernelIdeal.Gen Cert.KernelIdeal.Run Cert.Spec

namespace Cert.KernelIdeal.Value

variable (V : (c : Dev nD) → (b : Ref sig .tc) → Buf (Elt Ideal) ((c : Thread nD τ).loc b))

/-- The pixels of the bins in rows of eight are all the pixels. -/
theorem count_rows (p : IVec S1x224x224 32) (x : Fin 8 → Fin 6272 → BitVec 32) (q : Fin 214)
    (h : ∀ k r, x k r = p (ix3 0 (⟨(r * 8 + k) / 224, by omega⟩ : Fin 224) (⟨(r * 8 + k) % 224, by omega⟩ : Fin 224))) :
    (∑ k, ∑ r, if (x k r).toInt = q.val then 1 else 0 : ℕ) = count p q := by
  rw [Finset.sum_comm]
  exact Fin.sum_mul_add_congr fun r k hl => by rw [h k r]

theorem at_one (n : ℕ) : (n : EReal) + 1 = ((1 + (n : ℝ) : ℝ) : EReal) := by
  rw [EReal.coe_add, EReal.coe_one, EReal.coe_natCast, add_comm]

theorem inv_pixels : (Named.named (F := Ideal) (φ := .f32) κ "inv_npix" 0x37A72F05#32 : EReal) = ((1 / 50176 : ℝ) : EReal) :=
  IdealRules.named_const.ideal_named_scalar _ _ _ _ rfl

theorem idx1 : ∀ t : Fin cfg1.N, win1_0.index t = ![0, 0] ∧ win1_1.index t = ![0, 0, 0] ∧ win1_2.index t = ![0, 0] ∧ win1_3.index t = ![0, 0] :=
  (by decide +kernel : ∀ t : Fin grid1.N, _)

theorem head0 (c : Dev nD) (x : S6272x8.Idx) : iblk1 V c 0 t1_0 x = V c main_call0_v16 x := by blk_ext [iblk1, idx1 t1_0]
theorem head1 (c : Dev nD) (x : S8x1x214.Idx) : iblk1 V c 1 t1_0 x = V c main_call0_v15_1 x := by blk_ext [iblk1, idx1 t1_0]
theorem head2 (c : Dev nD) (x : S214x2.Idx) : iblk1 V c 2 t1_0 x = V c main_call0_v13 x := by blk_ext [iblk1, idx1 t1_0]
theorem head3 (c : Dev nD) (x : S1x2.Idx) : iblk1 V c 3 t1_0 x = V c main_call0_v14 x := by blk_ext [iblk1, idx1 t1_0]

/-- The eight columns of bins as the head loads them. -/
def cols (c : Dev nD) : Fin 8 → Vec Ideal S6272x1 .i32 :=
  ![View.ld (iblk1 V c 0 t1_0) r1_0, View.ld (iblk1 V c 0 t1_0) r1_1, View.ld (iblk1 V c 0 t1_0) r1_2, View.ld (iblk1 V c 0 t1_0) r1_3,
    View.ld (iblk1 V c 0 t1_0) r1_4, View.ld (iblk1 V c 0 t1_0) r1_5, View.ld (iblk1 V c 0 t1_0) r1_6, View.ld (iblk1 V c 0 t1_0) r1_7]

theorem col_read (c : Dev nD) (n : ℕ) (hn : n < 8) (inb) (r : Fin 6272) :
    View.ld (iblk1 V c 0 t1_0) (Rect.unit (s := S6272x8) ![0, n] S6272x1.size inb) (ix2 r 0) = V c main_call0_v16 (ix2 r (⟨n, hn⟩ : Fin 8)) := by
  rw [View.ld_unit_apply_of _ _ _ _ _ (ix2 r (⟨n, hn⟩ : Fin 8)) fun a => by
    match a with
    | 0 => exact (Nat.zero_add _).symm
    | 1 => rfl]
  exact head0 V c _

theorem cols_read (c : Dev nD) (k : Fin 8) (r : Fin 6272) : cols V c k (ix2 r 0) = V c main_call0_v16 (ix2 r k) := by
  match k with
  | 0 => exact col_read V c 0 _ _ r
  | 1 => exact col_read V c 1 _ _ r
  | 2 => exact col_read V c 2 _ _ r
  | 3 => exact col_read V c 3 _ _ r
  | 4 => exact col_read V c 4 _ _ r
  | 5 => exact col_read V c 5 _ _ r
  | 6 => exact col_read V c 6 _ _ r
  | 7 => exact col_read V c 7 _ _ r

/-- The bin counts after the head. -/
theorem counts_final (c : Dev nD) (p : IVec S1x224x224 32)
    (hp : ∀ (r : Fin 6272) (k : Fin 8), V c main_call0_v16 (ix2 r k) = p (ix3 0 (⟨(r * 8 + k) / 224, by omega⟩ : Fin 224) (⟨(r * 8 + k) % 224, by omega⟩ : Fin 224))) :
    (dat1 V c).arrAt 5 cfg1.N = fun y => ((1 + (count p (y 1) : ℝ) : ℝ) : EReal) := by
  refine (dat1 V c).arrAt_eq_of_after_last 5 t1_0 (by decide +kernel) _ fun j => ?_
  blk_simp
  rw [after1_5]
  frame_out
  have hj : j = (ix2 0 (j 1 : Fin 214) : S1x214.Idx) := by blk_ext
  refine (congrArg _ hj).trans ((counts_pay (cols V c) (j 1)).trans ?_)
  rw [count_rows p (fun k r => cols V c k (ix2 r 0)) (j 1) fun k r => (cols_read V c k r).trans (hp r k)]
  exact at_one _

/-- The scores after the head. -/
theorem scores_final (c : Dev nD) (S : Fin 8 → Fin 214 → EReal) (x8 : FVec Ideal S2x214 .f32) (x9 : FVec Ideal S2 .f32)
    (hS : ∀ b o, V c main_call0_v15_1 (ix3 b 0 o) = S b o) (hw : ∀ o k, V c main_call0_v13 (ix2 o k) = x8 (ix2 k o)) (hb : ∀ k, V c main_call0_v14 (ix2 0 k) = x9 (ix1 k)) :
    (dat1 V c).arrAt 4 cfg1.N = fun y => soft (score (S (y 0)) x8 x9) (y 1) := by
  refine (dat1 V c).arrAt_eq_of_after_last 4 t1_0 (by decide +kernel) _ fun j => ?_
  blk_simp
  rw [after1_4]
  frame_out
  have hj : j = (ix2 (j 0 : Fin 8) (j 1 : Fin 2) : S8x2.Idx) := by blk_ext
  refine (congrArg _ hj).trans ((scores_pay _ _ _ _ (j 0) (j 1)).trans (congrArg (fun z => soft z (j 1)) (funext fun k => ?_)))
  unfold score
  rw [inv_pixels]
  exact congrArg₂ (· + ·) (Finset.sum_congr rfl fun o _ => congrArg₂ (· * ·) (congrArg (· * _) ((head1 V c _).trans (hS _ o)))
    ((head2 V c _).trans (hw o k))) ((head3 V c _).trans (hb k))

theorem idx2 : ∀ t : Fin cfg2.N, win2_0.index t = ![t.val / 7, t.val % 7, 0] ∧ win2_1.index t = ![0, 0, 0, 0]
    ∧ win2_2.index t = ![t.val / 7, 0, t.val % 7, 0] :=
  (by decide +kernel : ∀ t : Fin grid2.N, _)

/-- The result after the writer. -/
theorem writer_final (c : Dev nD) (G : Fin 8 → Fin 224 → Fin 224 → EReal) (n : Fin 214 → EReal)
    (hG : ∀ b i j, V c main_call0_v15_0 (ix3 b i j) = G b i j) (hn : ∀ q, V c main_call0_v18 (ix4 0 q 0 0) = n q) :
    (dat2 V c).arrAt 2 cfg2.N = fun y => G (y 0) (y 2) (y 3) * Ideal.div 1 (n (y 1)) := by
  refine (dat2 V c).arrAt_eq_of_covers 2 _ (by decide +kernel) fun t hf y => ?_
  blk_simp
  rw [after2_2]
  frame_out
  have hy : y = (ix4 0 (y 1 : Fin 214) (y 2 : Fin 32) (y 3 : Fin 224) : S1x214x32x224.Idx) := by blk_ext
  refine (congrArg _ hy).trans ((writer_pay _ _ (y 1) (y 2) (y 3)).trans (congrArg₂ (· * ·) ?_ (congrArg (Ideal.div 1) ?_)))
  · refine Eq.trans ?_ (hG _ _ _)
    blk_ext [iblk2, idx2 t]
  · refine Eq.trans ?_ (hn _)
    blk_ext [iblk2, idx2 t]

end Cert.KernelIdeal.Value
-- ==== Proof.Value.Ends.lean ====
module

public import proofs.«01_k».proof.Proof.Value.Host
public import proofs.«01_k».proof.Proof.Value.HeadRun

@[expose] public section

set_option maxRecDepth 16384

noncomputable section

open Idealize.ShloMosaic Idealize.ShloMosaic.TcCoe Idealize.SL.Sem
open Cert.KernelIdeal Cert.KernelIdeal.Gen Cert.KernelIdeal.Run Cert.Spec

namespace Cert.KernelIdeal.Value

/-- The bins in rows of eight. -/
theorem rows_of_eight (p : IVec S1x224x224 32) (r : Fin 6272) (k : Fin 8) :
    shapeCast S6272x8 p shapeCasts_S1x224x224_S6272x8 (ix2 r k)
      = p (ix3 0 (⟨(r * 8 + k) / 224, by omega⟩ : Fin 224) (⟨(r * 8 + k) % 224, by omega⟩ : Fin 224)) := by
  pointwise
  exact congrArg₂ (fun a b => p (ix3 0 a b)) (Fin.ext (by dsimp only; omega)) (Fin.ext (by dsimp only; omega))

theorem counts_cast (n : FVec Ideal S1x214 .f32) (q : Fin 214) : shapeCast S1x214x1x1 n shapeCasts_S1x214_S1x214x1x1 (ix4 0 q 0 0) = n (ix2 0 q) := by
  pointwise

variable (m : (ℓ : Loc nD τ sig) → Buf (Elt Ideal) ℓ) (ρ : Dev nD → PrngReg) (c : Dev nD)

/-- The argument arrays by their types. -/
abbrev a0 : FVec Ideal S8x3x224x224 .f32 := m ((c : Thread nD τ).loc main_arg0)
abbrev a1 : IVec S1x224x224 32 := m ((c : Thread nD τ).loc main_arg1)
abbrev a2 : FVec Ideal S64x3x3x3 .f32 := m ((c : Thread nD τ).loc main_arg2)
abbrev a3 : FVec Ideal S64 .f32 := m ((c : Thread nD τ).loc main_arg3)
abbrev a4 : FVec Ideal S128x64x3x3 .f32 := m ((c : Thread nD τ).loc main_arg4)
abbrev a5 : FVec Ideal S128 .f32 := m ((c : Thread nD τ).loc main_arg5)
abbrev a6 : FVec Ideal S214x128x3x3 .f32 := m ((c : Thread nD τ).loc main_arg6)
abbrev a7 : FVec Ideal S214 .f32 := m ((c : Thread nD τ).loc main_arg7)
abbrev a8 : FVec Ideal S2x214 .f32 := m ((c : Thread nD τ).loc main_arg8)
abbrev a9 : FVec Ideal S2 .f32 := m ((c : Thread nD τ).loc main_arg9)

/-- The trunk over the launch's arguments. -/
abbrev T : Fin 8 → Fin 214 → ℕ → ℕ → EReal := trunk (a0 m c) (a2 m c) (a3 m c) (a4 m c) (a5 m c) (a6 m c) (a7 m c)

theorem end_psum (b : Fin 8) (o : Fin 214) : V5 m ρ c main_call0_v15_1 (ix3 b 0 o) = ∑ i : Fin 224, ∑ j : Fin 224, T m c b o i j :=
  (congrFun ((W5_of m ρ c main_call0_v15_1 (by decide)).trans ((W4_arr m ρ c 8).trans (psum_final (V3 m ρ) (trunkArgs m ρ c)))) (ix3 b 0 o))

theorem end_val (b : Fin 8) (i j : Fin 224) : V7 m ρ c main_call0_v15_0 (ix3 b i j) = ∑ o, T m c b o i j :=
  (congrFun ((W7_of m ρ c main_call0_v15_0 (by decide)).trans ((W6_of m ρ c main_call0_v15_0 (by decide)).trans ((W5_of m ρ c main_call0_v15_0 (by decide)).trans
    ((W4_arr m ρ c 7).trans (val_final (V3 m ρ) (trunkArgs m ρ c)))))) (ix3 b i j))

theorem end_first : W8 m ρ c (Proc.devRef .tc main_v0_0)
    = fun y => soft (score (fun o => ∑ i : Fin 224, ∑ j : Fin 224, T m c (y 0) o i j) (a8 m c) (a9 m c)) (y 1) := by
  refine (W8_of m ρ c main_v0_0 (by decide)).trans ((W7_of m ρ c main_v0_0 (by decide)).trans ((W6_arr m ρ c 4).trans ?_))
  refine scores_final (V5 m ρ) c (fun b o => ∑ i : Fin 224, ∑ j : Fin 224, T m c b o i j) (a8 m c) (a9 m c) (end_psum m ρ c) (fun o k => ?_) (fun k => ?_)
  · exact (congrFun ((W5_of m ρ c main_call0_v13 (by decide)).trans (W4_of m ρ c main_call0_v13 (by decide))) _).trans (host_v13 m ρ c o k)
  · exact (congrFun ((W5_of m ρ c main_call0_v14 (by decide)).trans (W4_of m ρ c main_call0_v14 (by decide))) _).trans (host_v14 m ρ c k)

theorem end_bins (r : Fin 6272) (k : Fin 8) : V5 m ρ c main_call0_v16 (ix2 r k)
    = a1 m c (ix3 0 (⟨(r * 8 + k) / 224, by omega⟩ : Fin 224) (⟨(r * 8 + k) % 224, by omega⟩ : Fin 224)) := by
  refine Eq.trans ?_ (rows_of_eight (a1 m c) r k)
  refine congrFun (?_ : V5 m ρ c main_call0_v16 = shapeCast S6272x8 (a1 m c) shapeCasts_S1x224x224_S6272x8) _
  refine Eq.trans (?_ : _ = shapeCast S6272x8 (W4 m ρ c (Proc.devRef .tc main_arg1) : IVec S1x224x224 32) shapeCasts_S1x224x224_S6272x8) ?_
  · show StableHlo.after hostOps1 (W4 m ρ c) (Proc.devRef .tc main_call0_v16) = _
    after_results
    rfl
  · rw [W4_args m ρ c main_arg1 (by decide)]

theorem end_counts (q : Fin 214) : V7 m ρ c main_call0_v18 (ix4 0 q 0 0) = ((1 + (count (a1 m c) q : ℝ) : ℝ) : EReal) := by
  refine Eq.trans ?_ (congrFun ((W6_arr m ρ c 5).trans (counts_final (V5 m ρ) c (a1 m c) (end_bins m ρ c))) (ix2 0 q))
  refine Eq.trans ?_ (counts_cast (W6 m ρ c (Proc.devRef .tc main_call0_v17_1)) q)
  refine congrFun (?_ : V7 m ρ c main_call0_v18 = shapeCast S1x214x1x1 (W6 m ρ c (Proc.devRef .tc main_call0_v17_1) : FVec Ideal S1x214 .f32) shapeCasts_S1x214_S1x214x1x1) _
  show StableHlo.after hostOps2 (W6 m ρ c) (Proc.devRef .tc main_call0_v18) = _
  after_results
  rfl

theorem end_second : W8 m ρ c (Proc.devRef .tc main_v0_1)
    = fun y => (∑ o, T m c (y 0) o (y 2 : Fin 224).val (y 3 : Fin 224).val) * ((1 / (1 + (count (a1 m c) (y 1) : ℝ)) : ℝ) : EReal) := by
  refine (W8_arr m ρ c 2).trans ((writer_final (V7 m ρ) c (fun b i j => ∑ o, T m c b o i j) (fun q => ((1 + (count (a1 m c) q : ℝ) : ℝ) : EReal))
    (end_val m ρ c) (end_counts m ρ c)).trans (funext fun y => congrArg _ ?_))
  rw [Ideal.div_coe (by positivity) _, one_mul]

end Cert.KernelIdeal.Value
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_bins_in_range
public import proofs.«01_k».proof.Proof.KernelRun.Whole
public import proofs.«01_k».proof.Proof.KernelIdealRun.Whole
public import proofs.«01_k».proof.Proof.Value.Ends
public import Idealize.ShloMosaic.Adequacy
public import Idealize.ShloMosaic.Init

@[expose] public section

noncomputable section

/-! The certificate: every claim about the two programs of the kernel and the reference. -/

namespace Cert.Proof

open Idealize.ShloMosaic Idealize.SL.Sem Cert.Kernel

theorem frame_reference : Cert.quiescent_ReferenceIdeal (hReferenceIdeal := Cert.ReferenceIdeal.Gen.facts) := fun m ρ _ =>
  (θ_run Cert.ReferenceIdeal.defs _ _).mono (fun r h => ⟨fun c => (h c).2.2,
      Idealize.ShloMosaic.sem_eq_zero_of_no_sems (by decide) r.2⟩)
    (Cert.ReferenceIdeal.Value.run (F := Ideal) m ρ)

/-- The range of the bins, read back from the precondition. -/
theorem bins_read (p : IVec Cert.KernelIdeal.S1x224x224 32) (x0 x2 x3 x4 x5 x6 x7 x8 x9)
    (h : @Cert.Pre_bins_in_range.fn Cert.Pre_bins_in_range.Gen.facts Ideal _ x0 p x2 x3 x4 x5 x6 x7 x8 x9 = fun _ => 1#1) (i j : Fin 224) :
    0 ≤ (p (ix3 0 i j)).toInt ∧ (p (ix3 0 i j)).toInt < 214 := by
  haveI : Subsingleton Cert.Pre_bins_in_range.S_.Idx := ⟨fun a b => funext fun k => k.elim0⟩
  have e := Host.reduce_andi_all _ _ _ _ ix0 (congrFun h ix0) (ix3 0 i j)
  obtain ⟨e1, e2⟩ := IntOp.andi_eq_one.mp e
  exact ⟨IntOp.cmpi_sge.mp e1, IntOp.cmpi_slt.mp e2⟩

open Cert.Spec

theorem first_of {y0 x0 : FVec Ideal Cert.KernelIdeal.S8x3x224x224 .f32} {y2 x2 : FVec Ideal Cert.KernelIdeal.S64x3x3x3 .f32} {y3 x3 : FVec Ideal Cert.KernelIdeal.S64 .f32} {y4 x4 : FVec Ideal Cert.KernelIdeal.S128x64x3x3 .f32} {y5 x5 : FVec Ideal Cert.KernelIdeal.S128 .f32} {y6 x6 : FVec Ideal Cert.KernelIdeal.S214x128x3x3 .f32} {y7 x7 : FVec Ideal Cert.KernelIdeal.S214 .f32} {y8 x8 : FVec Ideal Cert.KernelIdeal.S2x214 .f32} {y9 x9 : FVec Ideal Cert.KernelIdeal.S2 .f32}
    (e0 : y0 = x0) (e2 : y2 = x2) (e3 : y3 = x3) (e4 : y4 = x4) (e5 : y5 = x5) (e6 : y6 = x6) (e7 : y7 = x7) (e8 : y8 = x8) (e9 : y9 = x9) (b : Fin 8) (k : Fin 2) :
    Cert.ReferenceIdeal.Read.val_main_v192 (F := Ideal) y0 y2 y3 y4 y5 y6 y7 y8 y9 (ix2 b k)
      = soft (score (fun o => ∑ i : Fin 224, ∑ j : Fin 224, trunk x0 x2 x3 x4 x5 x6 x7 b o i j) x8 x9) k := by
  subst e0 e2 e3 e4 e5 e6 e7 e8 e9
  exact Cert.ReferenceIdeal.Value.ref_first _ _ _ _ _ _ _ _ _ b k

theorem second_of {y0 x0 : FVec Ideal Cert.KernelIdeal.S8x3x224x224 .f32} {y1 x1 : IVec Cert.KernelIdeal.S1x224x224 32} {y2 x2 : FVec Ideal Cert.KernelIdeal.S64x3x3x3 .f32} {y3 x3 : FVec Ideal Cert.KernelIdeal.S64 .f32} {y4 x4 : FVec Ideal Cert.KernelIdeal.S128x64x3x3 .f32} {y5 x5 : FVec Ideal Cert.KernelIdeal.S128 .f32} {y6 x6 : FVec Ideal Cert.KernelIdeal.S214x128x3x3 .f32} {y7 x7 : FVec Ideal Cert.KernelIdeal.S214 .f32}
    (e0 : y0 = x0) (e1 : y1 = x1) (e2 : y2 = x2) (e3 : y3 = x3) (e4 : y4 = x4) (e5 : y5 = x5) (e6 : y6 = x6) (e7 : y7 = x7)
    (hp : ∀ i j : Fin 224, 0 ≤ (x1 (ix3 0 i j)).toInt ∧ (x1 (ix3 0 i j)).toInt < 214) (b : Fin 8) (q : Fin 214) (i j : Fin 224) :
    Cert.ReferenceIdeal.Read.val_main_v239 (F := Ideal) y0 y1 y2 y3 y4 y5 y6 y7 (ix4 b q i j)
      = (∑ o, trunk x0 x2 x3 x4 x5 x6 x7 b o i j) * ((1 / (1 + (count x1 q : ℝ)) : ℝ) : EReal) := by
  subst e0 e1 e2 e3 e4 e5 e6 e7
  exact Cert.ReferenceIdeal.Value.ref_second _ _ _ _ _ _ _ _ hp b q i j

open Cert.KernelIdeal.Run Cert.KernelIdeal.Value Cert.Spec

theorem same_results : Cert.algebraic_KernelIdeal_ReferenceIdeal_pre_bins_in_range (hKernelIdeal := Cert.KernelIdeal.Gen.facts)
    (hReferenceIdeal := Cert.ReferenceIdeal.Gen.facts) (hPre_bins_in_range := Cert.Pre_bins_in_range.Gen.facts) := by
  intro m g m' g' hpre hargs
  refine ⟨fun c => W8 m g c (Proc.devRef .tc Cert.KernelIdeal.main_v0_0), fun c => W8 m g c (Proc.devRef .tc Cert.KernelIdeal.main_v0_1), ?_, ?_⟩
  · refine (θ_run Cert.KernelIdeal.defs _ _).mono (fun r h c => ?_) (Cert.KernelIdeal.Run.run m g)
    exact ⟨h.1 c _ (mem_uc Cert.KernelIdeal.main_v0_0 (by decide)), h.1 c _ (mem_uc Cert.KernelIdeal.main_v0_1 (by decide)),
      (h.1 c _ (mem_uc Cert.KernelIdeal.main_arg0 (by decide))).trans (W8_main_arg0 m g c),
      (h.1 c _ (mem_uc Cert.KernelIdeal.main_arg1 (by decide))).trans (W8_main_arg1 m g c),
      (h.1 c _ (mem_uc Cert.KernelIdeal.main_arg2 (by decide))).trans (W8_main_arg2 m g c),
      (h.1 c _ (mem_uc Cert.KernelIdeal.main_arg3 (by decide))).trans (W8_main_arg3 m g c),
      (h.1 c _ (mem_uc Cert.KernelIdeal.main_arg4 (by decide))).trans (W8_main_arg4 m g c),
      (h.1 c _ (mem_uc Cert.KernelIdeal.main_arg5 (by decide))).trans (W8_main_arg5 m g c),
      (h.1 c _ (mem_uc Cert.KernelIdeal.main_arg6 (by decide))).trans (W8_main_arg6 m g c),
      (h.1 c _ (mem_uc Cert.KernelIdeal.main_arg7 (by decide))).trans (W8_main_arg7 m g c),
      (h.1 c _ (mem_uc Cert.KernelIdeal.main_arg8 (by decide))).trans (W8_main_arg8 m g c),
      (h.1 c _ (mem_uc Cert.KernelIdeal.main_arg9 (by decide))).trans (W8_main_arg9 m g c)⟩
  · refine (θ_run Cert.ReferenceIdeal.defs _ _).mono (fun r h c => ⟨?_, ?_, (h c).2.2⟩) (Cert.ReferenceIdeal.Value.run (F := Ideal) m' g')
    · obtain ⟨e0, e1, e2, e3, e4, e5, e6, e7, e8, e9⟩ := hargs c
      refine (h c).1.trans ((Cert.ReferenceIdeal.Read.val_main_v192_eq (StableHlo.launchContents m' c)).trans ?_)
      refine Eq.trans ?_ (end_first m g c).symm
      refine funext fun y => ?_
      have hy : y = (ix2 (y 0 : Fin 8) (y 1 : Fin 2) : Cert.ReferenceIdeal.S8x2.Idx) := by blk_ext
      exact (congrArg _ hy).trans (first_of e0 e2 e3 e4 e5 e6 e7 e8 e9 (y 0) (y 1))
    · obtain ⟨e0, e1, e2, e3, e4, e5, e6, e7, e8, e9⟩ := hargs c
      refine (h c).2.1.trans ((Cert.ReferenceIdeal.Read.val_main_v239_eq (StableHlo.launchContents m' c)).trans ?_)
      refine Eq.trans ?_ (end_second m g c).symm
      refine funext fun y => ?_
      have hy : y = (ix4 (y 0 : Fin 8) (y 1 : Fin 214) (y 2 : Fin 224) (y 3 : Fin 224) : Cert.ReferenceIdeal.S8x214x224x224.Idx) := by blk_ext
      exact (congrArg _ hy).trans (second_of e0 e1 e2 e3 e4 e5 e6 e7 (bins_read _ _ _ _ _ _ _ _ _ _ (hpre c)) (y 0) (y 1) (y 2) (y 3))

theorem claim : Cert.Claim :=
  ⟨Cert.Kernel.Gen.facts, Cert.KernelIdeal.Gen.facts, Cert.ReferenceIdeal.Gen.facts, Cert.Pre_bins_in_range.Gen.facts,
    fun m ρ _ => Cert.Kernel.Run.frame m ρ, fun m ρ _ => Cert.KernelIdeal.Run.frame m ρ, fun m ρ _ => Cert.KernelIdeal.Run.frame m ρ,
    frame_reference, fun m ρ _ => frame_reference m ρ trivial,
    IdealRules.named_const.statement Cert.KernelIdeal.κ "inv_npix" .f32 0x37A72F05#32 ((1 / 50176 : ℝ) : EReal) rfl, same_results⟩

end Cert.Proof

end
